-- ==== Defs.lean ====
def Pre_Rec (m : (ℓ : Loc Cert.Rec.nD Cert.Rec.τ Cert.Rec.sig) → Buf (Elt Bits) ℓ) : Prop :=
  True

def Pre_RecIdeal (m : (ℓ : Loc Cert.RecIdeal.nD Cert.RecIdeal.τ Cert.RecIdeal.sig) → Buf (Elt Ideal) ℓ) : Prop :=
  True

def Pre_RecRefIdeal (m : (ℓ : Loc Cert.RecRefIdeal.nD Cert.RecRefIdeal.τ Cert.RecRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Rec [hRec : Cert.Rec.Facts] : Prop :=
  ∀ (m : (ℓ : Loc Cert.Rec.nD Cert.Rec.τ Cert.Rec.sig) → Buf (Elt Bits) ℓ) (g : Dev Cert.Rec.nD → PrngReg), Pre_Rec m →
    θ_run (Cert.Rec.defs (F := Bits)) (onTc (τ := Cert.Rec.τ) (Cert.Rec.main (F := Bits))) ⟨m, fun _ => 0, g⟩ (fun r => (∀ c : Dev Cert.Rec.nD,
      r.2.mem ((c.tc : Thread Cert.Rec.nD Cert.Rec.τ).loc Cert.Rec.main_arg0) = m ((c.tc : Thread Cert.Rec.nD Cert.Rec.τ).loc Cert.Rec.main_arg0)
      ∧ r.2.mem ((c.tc : Thread Cert.Rec.nD Cert.Rec.τ).loc Cert.Rec.main_arg1) = m ((c.tc : Thread Cert.Rec.nD Cert.Rec.τ).loc Cert.Rec.main_arg1)
      ∧ r.2.mem ((c.tc : Thread Cert.Rec.nD Cert.Rec.τ).loc Cert.Rec.main_arg2) = m ((c.tc : Thread Cert.Rec.nD Cert.Rec.τ).loc Cert.Rec.main_arg2)
      ∧ r.2.mem ((c.tc : Thread Cert.Rec.nD Cert.Rec.τ).loc Cert.Rec.main_arg3) = m ((c.tc : Thread Cert.Rec.nD Cert.Rec.τ).loc Cert.Rec.main_arg3)
      ∧ r.2.mem ((c.tc : Thread Cert.Rec.nD Cert.Rec.τ).loc Cert.Rec.main_arg4) = m ((c.tc : Thread Cert.Rec.nD Cert.Rec.τ).loc Cert.Rec.main_arg4)
      ∧ r.2.mem ((c.tc : Thread Cert.Rec.nD Cert.Rec.τ).loc Cert.Rec.main_arg5) = m ((c.tc : Thread Cert.Rec.nD Cert.Rec.τ).loc Cert.Rec.main_arg5)
      ∧ r.2.mem ((c.tc : Thread Cert.Rec.nD Cert.Rec.τ).loc Cert.Rec.main_arg6) = m ((c.tc : Thread Cert.Rec.nD Cert.Rec.τ).loc Cert.Rec.main_arg6)
      ∧ r.2.mem ((c.tc : Thread Cert.Rec.nD Cert.Rec.τ).loc Cert.Rec.main_arg7) = m ((c.tc : Thread Cert.Rec.nD Cert.Rec.τ).loc Cert.Rec.main_arg7))
      ∧ r.2.sem = fun _ => 0)

def quiescent_RecIdeal [hRecIdeal : Cert.RecIdeal.Facts] : Prop :=
  ∀ (m : (ℓ : Loc Cert.RecIdeal.nD Cert.RecIdeal.τ Cert.RecIdeal.sig) → Buf (Elt Ideal) ℓ) (g : Dev Cert.RecIdeal.nD → PrngReg), Pre_RecIdeal m →
    θ_run (Cert.RecIdeal.defs (F := Ideal)) (onTc (τ := Cert.RecIdeal.τ) (Cert.RecIdeal.main (F := Ideal))) ⟨m, fun _ => 0, g⟩ (fun r => (∀ c : Dev Cert.RecIdeal.nD,
      r.2.mem ((c.tc : Thread Cert.RecIdeal.nD Cert.RecIdeal.τ).loc Cert.RecIdeal.main_arg0) = m ((c.tc : Thread Cert.RecIdeal.nD Cert.RecIdeal.τ).loc Cert.RecIdeal.main_arg0)
      ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
      ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
      ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
      ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
      ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
      ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
      ∧ r.2.mem ((c.tc : Thread Cert.RecIdeal.nD Cert.RecIdeal.τ).loc Cert.RecIdeal.main_arg7) = m ((c.tc : Thread Cert.RecIdeal.nD Cert.RecIdeal.τ).loc Cert.RecIdeal.main_arg7))
      ∧ r.2.sem = fun _ => 0)

def quiescent_RecRefIdeal [hRecRefIdeal : Cert.RecRefIdeal.Facts] : Prop :=
  ∀ (m : (ℓ : Loc Cert.RecRefIdeal.nD Cert.RecRefIdeal.τ Cert.RecRefIdeal.sig) → Buf (Elt Ideal) ℓ) (g : Dev Cert.RecRefIdeal.nD → PrngReg), Pre_RecRefIdeal m →
    θ_run (Cert.RecRefIdeal.defs (F := Ideal)) (onTc (τ := Cert.RecRefIdeal.τ) (Cert.RecRefIdeal.main (F := Ideal))) ⟨m, fun _ => 0, g⟩ (fun r => (∀ c : Dev Cert.RecRefIdeal.nD,
      r.2.mem ((c.tc : Thread Cert.RecRefIdeal.nD Cert.RecRefIdeal.τ).loc Cert.RecRefIdeal.main_arg0) = m ((c.tc : Thread Cert.RecRefIdeal.nD Cert.RecRefIdeal.τ).loc Cert.RecRefIdeal.main_arg0)
      ∧ r.2.mem ((c.tc : Thread Cert.RecRefIdeal.nD Cert.RecRefIdeal.τ).loc Cert.RecRefIdeal.main_arg1) = m ((c.tc : Thread Cert.RecRefIdeal.nD Cert.RecRefIdeal.τ).loc Cert.RecRefIdeal.main_arg1)
      ∧ r.2.mem ((c.tc : Thread Cert.RecRefIdeal.nD Cert.RecRefIdeal.τ).loc Cert.RecRefIdeal.main_arg2) = m ((c.tc : Thread Cert.RecRefIdeal.nD Cert.RecRefIdeal.τ).loc Cert.RecRefIdeal.main_arg2)
      ∧ r.2.mem ((c.tc : Thread Cert.RecRefIdeal.nD Cert.RecRefIdeal.τ).loc Cert.RecRefIdeal.main_arg3) = m ((c.tc : Thread Cert.RecRefIdeal.nD Cert.RecRefIdeal.τ).loc Cert.RecRefIdeal.main_arg3)
      ∧ r.2.mem ((c.tc : Thread Cert.RecRefIdeal.nD Cert.RecRefIdeal.τ).loc Cert.RecRefIdeal.main_arg4) = m ((c.tc : Thread Cert.RecRefIdeal.nD Cert.RecRefIdeal.τ).loc Cert.RecRefIdeal.main_arg4)
      ∧ r.2.mem ((c.tc : Thread Cert.RecRefIdeal.nD Cert.RecRefIdeal.τ).loc Cert.RecRefIdeal.main_arg5) = m ((c.tc : Thread Cert.RecRefIdeal.nD Cert.RecRefIdeal.τ).loc Cert.RecRefIdeal.main_arg5)
      ∧ r.2.mem ((c.tc : Thread Cert.RecRefIdeal.nD Cert.RecRefIdeal.τ).loc Cert.RecRefIdeal.main_arg6) = m ((c.tc : Thread Cert.RecRefIdeal.nD Cert.RecRefIdeal.τ).loc Cert.RecRefIdeal.main_arg6)
      ∧ r.2.mem ((c.tc : Thread Cert.RecRefIdeal.nD Cert.RecRefIdeal.τ).loc Cert.RecRefIdeal.main_arg7) = m ((c.tc : Thread Cert.RecRefIdeal.nD Cert.RecRefIdeal.τ).loc Cert.RecRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def preserves_Rec_RecIdeal : Prop :=
  True

def algebraic_RecIdeal_RecRefIdeal [hRecIdeal : Cert.RecIdeal.Facts] [hRecRefIdeal : Cert.RecRefIdeal.Facts] : Prop :=
  ∀ (m : (ℓ : Loc Cert.RecIdeal.nD Cert.RecIdeal.τ Cert.RecIdeal.sig) → Buf (Elt Ideal) ℓ) (g : Dev Cert.RecIdeal.nD → PrngReg)
    (m' : (ℓ : Loc Cert.RecRefIdeal.nD Cert.RecRefIdeal.τ Cert.RecRefIdeal.sig) → Buf (Elt Ideal) ℓ) (g' : Dev Cert.RecRefIdeal.nD → PrngReg), Pre_RecIdeal m →
    (∀ c : Dev Cert.RecIdeal.nD,
      m' ((c.tc : Thread Cert.RecRefIdeal.nD Cert.RecRefIdeal.τ).loc Cert.RecRefIdeal.main_arg0) = m ((c.tc : Thread Cert.RecIdeal.nD Cert.RecIdeal.τ).loc Cert.RecIdeal.main_arg0)
      ∧ m' ((c.tc : Thread Cert.RecRefIdeal.nD Cert.RecRefIdeal.τ).loc Cert.RecRefIdeal.main_arg1) = m ((c.tc : Thread Cert.RecIdeal.nD Cert.RecIdeal.τ).loc Cert.RecIdeal.main_arg1)
      ∧ m' ((c.tc : Thread Cert.RecRefIdeal.nD Cert.RecRefIdeal.τ).loc Cert.RecRefIdeal.main_arg2) = m ((c.tc : Thread Cert.RecIdeal.nD Cert.RecIdeal.τ).loc Cert.RecIdeal.main_arg2)
      ∧ m' ((c.tc : Thread Cert.RecRefIdeal.nD Cert.RecRefIdeal.τ).loc Cert.RecRefIdeal.main_arg3) = m ((c.tc : Thread Cert.RecIdeal.nD Cert.RecIdeal.τ).loc Cert.RecIdeal.main_arg3)
      ∧ m' ((c.tc : Thread Cert.RecRefIdeal.nD Cert.RecRefIdeal.τ).loc Cert.RecRefIdeal.main_arg4) = m ((c.tc : Thread Cert.RecIdeal.nD Cert.RecIdeal.τ).loc Cert.RecIdeal.main_arg4)
      ∧ m' ((c.tc : Thread Cert.RecRefIdeal.nD Cert.RecRefIdeal.τ).loc Cert.RecRefIdeal.main_arg5) = m ((c.tc : Thread Cert.RecIdeal.nD Cert.RecIdeal.τ).loc Cert.RecIdeal.main_arg5)
      ∧ m' ((c.tc : Thread Cert.RecRefIdeal.nD Cert.RecRefIdeal.τ).loc Cert.RecRefIdeal.main_arg6) = m ((c.tc : Thread Cert.RecIdeal.nD Cert.RecIdeal.τ).loc Cert.RecIdeal.main_arg6)
      ∧ m' ((c.tc : Thread Cert.RecRefIdeal.nD Cert.RecRefIdeal.τ).loc Cert.RecRefIdeal.main_arg7) = m ((c.tc : Thread Cert.RecIdeal.nD Cert.RecIdeal.τ).loc Cert.RecIdeal.main_arg7)) →
    ∃ (v0 : (c : Dev Cert.RecIdeal.nD) → Buf (Elt Ideal) ((c.tc : Thread Cert.RecIdeal.nD Cert.RecIdeal.τ).loc Cert.RecIdeal.main_v1_0)) (v1 : (c : Dev Cert.RecIdeal.nD) → Buf (Elt Ideal) ((c.tc : Thread Cert.RecIdeal.nD Cert.RecIdeal.τ).loc Cert.RecIdeal.main_v1_1)),
      θ_run (Cert.RecIdeal.defs (F := Ideal)) (onTc (τ := Cert.RecIdeal.τ) (Cert.RecIdeal.main (F := Ideal))) ⟨m, fun _ => 0, g⟩ (fun r => ∀ c : Dev Cert.RecIdeal.nD,
          r.2.mem ((c.tc : Thread Cert.RecIdeal.nD Cert.RecIdeal.τ).loc Cert.RecIdeal.main_v1_0) = v0 c
          ∧ r.2.mem ((c.tc : Thread Cert.RecIdeal.nD Cert.RecIdeal.τ).loc Cert.RecIdeal.main_v1_1) = v1 c
          ∧ r.2.mem ((c.tc : Thread Cert.RecIdeal.nD Cert.RecIdeal.τ).loc Cert.RecIdeal.main_arg0) = m ((c.tc : Thread Cert.RecIdeal.nD Cert.RecIdeal.τ).loc Cert.RecIdeal.main_arg0)
          ∧ r.2.mem ((c.tc : Thread Cert.RecIdeal.nD Cert.RecIdeal.τ).loc Cert.RecIdeal.main_arg1) = m ((c.tc : Thread Cert.RecIdeal.nD Cert.RecIdeal.τ).loc Cert.RecIdeal.main_arg1)
          ∧ r.2.mem ((c.tc : Thread Cert.RecIdeal.nD Cert.RecIdeal.τ).loc Cert.RecIdeal.main_arg2) = m ((c.tc : Thread Cert.RecIdeal.nD Cert.RecIdeal.τ).loc Cert.RecIdeal.main_arg2)
          ∧ r.2.mem ((c.tc : Thread Cert.RecIdeal.nD Cert.RecIdeal.τ).loc Cert.RecIdeal.main_arg3) = m ((c.tc : Thread Cert.RecIdeal.nD Cert.RecIdeal.τ).loc Cert.RecIdeal.main_arg3)
          ∧ r.2.mem ((c.tc : Thread Cert.RecIdeal.nD Cert.RecIdeal.τ).loc Cert.RecIdeal.main_arg4) = m ((c.tc : Thread Cert.RecIdeal.nD Cert.RecIdeal.τ).loc Cert.RecIdeal.main_arg4)
          ∧ r.2.mem ((c.tc : Thread Cert.RecIdeal.nD Cert.RecIdeal.τ).loc Cert.RecIdeal.main_arg5) = m ((c.tc : Thread Cert.RecIdeal.nD Cert.RecIdeal.τ).loc Cert.RecIdeal.main_arg5)
          ∧ r.2.mem ((c.tc : Thread Cert.RecIdeal.nD Cert.RecIdeal.τ).loc Cert.RecIdeal.main_arg6) = m ((c.tc : Thread Cert.RecIdeal.nD Cert.RecIdeal.τ).loc Cert.RecIdeal.main_arg6)
          ∧ r.2.mem ((c.tc : Thread Cert.RecIdeal.nD Cert.RecIdeal.τ).loc Cert.RecIdeal.main_arg7) = m ((c.tc : Thread Cert.RecIdeal.nD Cert.RecIdeal.τ).loc Cert.RecIdeal.main_arg7))
      ∧ θ_run (Cert.RecRefIdeal.defs (F := Ideal)) (onTc (τ := Cert.RecRefIdeal.τ) (Cert.RecRefIdeal.main (F := Ideal))) ⟨m', fun _ => 0, g'⟩ (fun r => ∀ c : Dev Cert.RecRefIdeal.nD,
          r.2.mem ((c.tc : Thread Cert.RecRefIdeal.nD Cert.RecRefIdeal.τ).loc Cert.RecRefIdeal.main_v42) = v0 c
          ∧ r.2.mem ((c.tc : Thread Cert.RecRefIdeal.nD Cert.RecRefIdeal.τ).loc Cert.RecRefIdeal.main_v16_7) = v1 c
          ∧ r.2.mem ((c.tc : Thread Cert.RecRefIdeal.nD Cert.RecRefIdeal.τ).loc Cert.RecRefIdeal.main_arg0) = m' ((c.tc : Thread Cert.RecRefIdeal.nD Cert.RecRefIdeal.τ).loc Cert.RecRefIdeal.main_arg0)
          ∧ r.2.mem ((c.tc : Thread Cert.RecRefIdeal.nD Cert.RecRefIdeal.τ).loc Cert.RecRefIdeal.main_arg1) = m' ((c.tc : Thread Cert.RecRefIdeal.nD Cert.RecRefIdeal.τ).loc Cert.RecRefIdeal.main_arg1)
          ∧ r.2.mem ((c.tc : Thread Cert.RecRefIdeal.nD Cert.RecRefIdeal.τ).loc Cert.RecRefIdeal.main_arg2) = m' ((c.tc : Thread Cert.RecRefIdeal.nD Cert.RecRefIdeal.τ).loc Cert.RecRefIdeal.main_arg2)
          ∧ r.2.mem ((c.tc : Thread Cert.RecRefIdeal.nD Cert.RecRefIdeal.τ).loc Cert.RecRefIdeal.main_arg3) = m' ((c.tc : Thread Cert.RecRefIdeal.nD Cert.RecRefIdeal.τ).loc Cert.RecRefIdeal.main_arg3)
          ∧ r.2.mem ((c.tc : Thread Cert.RecRefIdeal.nD Cert.RecRefIdeal.τ).loc Cert.RecRefIdeal.main_arg4) = m' ((c.tc : Thread Cert.RecRefIdeal.nD Cert.RecRefIdeal.τ).loc Cert.RecRefIdeal.main_arg4)
          ∧ r.2.mem ((c.tc : Thread Cert.RecRefIdeal.nD Cert.RecRefIdeal.τ).loc Cert.RecRefIdeal.main_arg5) = m' ((c.tc : Thread Cert.RecRefIdeal.nD Cert.RecRefIdeal.τ).loc Cert.RecRefIdeal.main_arg5)
          ∧ r.2.mem ((c.tc : Thread Cert.RecRefIdeal.nD Cert.RecRefIdeal.τ).loc Cert.RecRefIdeal.main_arg6) = m' ((c.tc : Thread Cert.RecRefIdeal.nD Cert.RecRefIdeal.τ).loc Cert.RecRefIdeal.main_arg6)
          ∧ r.2.mem ((c.tc : Thread Cert.RecRefIdeal.nD Cert.RecRefIdeal.τ).loc Cert.RecRefIdeal.main_arg7) = m' ((c.tc : Thread Cert.RecRefIdeal.nD Cert.RecRefIdeal.τ).loc Cert.RecRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v7)) (v1 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_v8) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_v19) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v20)) (v1 : (c : Dev Cert.SampleIdeal.nD) → Buf (Elt Ideal) ((c.tc : Thread Cert.SampleIdeal.nD Cert.SampleIdeal.τ).loc Cert.SampleIdeal.main_v52)) (v2 : (c : Dev Cert.SampleIdeal.nD) → Buf (Elt Ideal) ((c.tc : Thread Cert.SampleIdeal.nD Cert.SampleIdeal.τ).loc Cert.SampleIdeal.main_v67)) (v3 : (c : Dev Cert.SampleIdeal.nD) → Buf (Elt Ideal) ((c.tc : Thread Cert.SampleIdeal.nD Cert.SampleIdeal.τ).loc Cert.SampleIdeal.main_v82)) (v4 : (c : Dev Cert.SampleIdeal.nD) → Buf (Elt Ideal) ((c.tc : Thread Cert.SampleIdeal.nD Cert.SampleIdeal.τ).loc Cert.SampleIdeal.main_v85)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v20) = v0 c
          ∧ r.2.mem ((c.tc : Thread Cert.SampleIdeal.nD Cert.SampleIdeal.τ).loc Cert.SampleIdeal.main_v52) = v1 c
          ∧ r.2.mem ((c.tc : Thread Cert.SampleIdeal.nD Cert.SampleIdeal.τ).loc Cert.SampleIdeal.main_v67) = v2 c
          ∧ r.2.mem ((c.tc : Thread Cert.SampleIdeal.nD Cert.SampleIdeal.τ).loc Cert.SampleIdeal.main_v82) = v3 c
          ∧ r.2.mem ((c.tc : Thread Cert.SampleIdeal.nD Cert.SampleIdeal.τ).loc Cert.SampleIdeal.main_v85) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v24) = v0 c
          ∧ r.2.mem ((c.tc : Thread Cert.SampleRefIdeal.nD Cert.SampleRefIdeal.τ).loc Cert.SampleRefIdeal.main_v56) = v1 c
          ∧ r.2.mem ((c.tc : Thread Cert.SampleRefIdeal.nD Cert.SampleRefIdeal.τ).loc Cert.SampleRefIdeal.main_v71) = v2 c
          ∧ r.2.mem ((c.tc : Thread Cert.SampleRefIdeal.nD Cert.SampleRefIdeal.τ).loc Cert.SampleRefIdeal.main_v86) = v3 c
          ∧ r.2.mem ((c.tc : Thread Cert.SampleRefIdeal.nD Cert.SampleRefIdeal.τ).loc Cert.SampleRefIdeal.main_v89) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)) →
    ∃ (v0 : (c : Dev Cert.OutSIdeal.nD) → Buf (Elt Ideal) ((c.tc : Thread Cert.OutSIdeal.nD Cert.OutSIdeal.τ).loc Cert.OutSIdeal.main_v5)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v5) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v2) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v267) = v0 c
          ∧ r.2.mem ((c.tc : Thread Cert.ConvRefIdeal.nD Cert.ConvRefIdeal.τ).loc Cert.ConvRefIdeal.main_v268) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v2_1)) (v1 : (c : Dev Cert.AttnIdeal.nD) → Buf (Elt Ideal) ((c.tc : Thread Cert.AttnIdeal.nD Cert.AttnIdeal.τ).loc Cert.AttnIdeal.main_v2_2)) (v2 : (c : Dev Cert.AttnIdeal.nD) → Buf (Elt Ideal) ((c.tc : Thread Cert.AttnIdeal.nD Cert.AttnIdeal.τ).loc Cert.AttnIdeal.main_v2_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_1) = v0 c
          ∧ r.2.mem ((c.tc : Thread Cert.AttnIdeal.nD Cert.AttnIdeal.τ).loc Cert.AttnIdeal.main_v2_2) = v1 c
          ∧ r.2.mem ((c.tc : Thread Cert.AttnIdeal.nD Cert.AttnIdeal.τ).loc Cert.AttnIdeal.main_v2_3) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_v32) = v1 c
          ∧ r.2.mem ((c.tc : Thread Cert.AttnRefIdeal.nD Cert.AttnRefIdeal.τ).loc Cert.AttnRefIdeal.main_v40) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def Claim : Prop :=
  ∃ (hRec : Cert.Rec.Facts) (hRecIdeal : Cert.RecIdeal.Facts) (hRecRefIdeal : Cert.RecRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hSample : Cert.Sample.Facts) (hSampleIdeal : Cert.SampleIdeal.Facts) (hSampleRefIdeal : Cert.SampleRefIdeal.Facts) (hOutS : Cert.OutS.Facts) (hOutSIdeal : Cert.OutSIdeal.Facts) (hOutSRefIdeal : Cert.OutSRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts),
    quiescent_Rec (hRec := hRec)
    ∧ quiescent_RecIdeal (hRecIdeal := hRecIdeal)
    ∧ quiescent_RecRefIdeal (hRecRefIdeal := hRecRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Sample (hSample := hSample)
    ∧ quiescent_SampleIdeal (hSampleIdeal := hSampleIdeal)
    ∧ quiescent_SampleRefIdeal (hSampleRefIdeal := hSampleRefIdeal)
    ∧ quiescent_OutS (hOutS := hOutS)
    ∧ quiescent_OutSIdeal (hOutSIdeal := hOutSIdeal)
    ∧ quiescent_OutSRefIdeal (hOutSRefIdeal := hOutSRefIdeal)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnRefIdeal (hAttnRefIdeal := hAttnRefIdeal)
    ∧ preserves_Rec_RecIdeal
    ∧ algebraic_RecIdeal_RecRefIdeal (hRecIdeal := hRecIdeal) (hRecRefIdeal := hRecRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Sample_SampleIdeal
    ∧ algebraic_SampleIdeal_SampleRefIdeal (hSampleIdeal := hSampleIdeal) (hSampleRefIdeal := hSampleRefIdeal)
    ∧ preserves_OutS_OutSIdeal
    ∧ algebraic_OutSIdeal_OutSRefIdeal (hOutSIdeal := hOutSIdeal) (hOutSRefIdeal := hOutSRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal (hAttnIdeal := hAttnIdeal) (hAttnRefIdeal := hAttnRefIdeal)
-- ==== Rec.lean ====
abbrev S8192x1024 : Shape := ⟨2, ![8192, 1024]⟩
abbrev S128x1024x64 : Shape := ⟨3, ![128, 1024, 64]⟩
abbrev S128x8x128 : Shape := ⟨3, ![128, 8, 128]⟩
abbrev S8192x23808 : Shape := ⟨2, ![8192, 23808]⟩
abbrev S128 : Shape := ⟨1, ![128]⟩
abbrev S1x128 : Shape := ⟨2, ![1, 128]⟩
abbrev S8x128x128 : Shape := ⟨3, ![8, 128, 128]⟩
abbrev S256x1024 : Shape := ⟨2, ![256, 1024]⟩
abbrev S4x1024x64 : Shape := ⟨3, ![4, 1024, 64]⟩
abbrev S4x8x128 : Shape := ⟨3, ![4, 8, 128]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S1x1x128 : Shape := ⟨3, ![1, 1, 128]⟩
abbrev S1x128x64 : Shape := ⟨3, ![1, 128, 64]⟩
abbrev S128x64 : Shape := ⟨2, ![128, 64]⟩
abbrev S64 : Shape := ⟨1, ![64]⟩
abbrev S64x1 : Shape := ⟨2, ![64, 1]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S128x1024x64, .bf16⟩
  | .hbm, ⟨4, _⟩ => ⟨S8192x1024, .bf16⟩
  | .hbm, ⟨5, _⟩ => ⟨S128x8x128, .f32⟩
  | .hbm, ⟨6, _⟩ => ⟨S8192x23808, .f32⟩
  | .hbm, ⟨7, _⟩ => ⟨S128, .f32⟩
  | .hbm, ⟨8, _⟩ => ⟨S1x128, .f32⟩
  | .hbm, ⟨9, _⟩ => ⟨S8192x1024, .f32⟩
  | .hbm, ⟨10, _⟩ => ⟨S8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4x1024x64, .bf16⟩
  | .local _ .vmem, ⟨7, _⟩ => ⟨S4x1024x64, .bf16⟩
  | .local _ .vmem, ⟨8, _⟩ => ⟨S256x1024, .bf16⟩
  | .local _ .vmem, ⟨9, _⟩ => ⟨S256x1024, .bf16⟩
  | .local _ .vmem, ⟨10, _⟩ => ⟨S4x8x128, .f32⟩
  | .local _ .vmem, ⟨11, _⟩ => ⟨S4x8x128, .f32⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S256x1024, .f32⟩
  | .local _ .vmem, ⟨16, _⟩ => ⟨S256x1024, .f32⟩
  | .local _ .vmem, ⟨17, _⟩ => ⟨S8x128x128, .f32⟩
  | .local _ .vmem, ⟨18, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1317 : BitVec 1 := Scalar.cmpi .eq arg0 c31_i32
  let v1318 : BitVec 32 := Scalar.extui v1317
  let c0_i32_977 : BitVec 32 := 0#32
  let v1319 : BitVec 1 := Scalar.cmpi .ne v1318 c0_i32_977
  v1319

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RecRefIdeal.lean ====
abbrev S8192x1024 : Shape := ⟨2, ![8192, 1024]⟩
abbrev S128x1024x64 : Shape := ⟨3, ![128, 1024, 64]⟩
abbrev S128x8x128 : Shape := ⟨3, ![128, 8, 128]⟩
abbrev S8192x23808 : Shape := ⟨2, ![8192, 23808]⟩
abbrev S128 : Shape := ⟨1, ![128]⟩
abbrev S128x64x8x128 : Shape := ⟨4, ![128, 64, 8, 128]⟩
abbrev S128x8x64x128 : Shape := ⟨4, ![128, 8, 64, 128]⟩
abbrev S128x8x64x64 : Shape := ⟨4, ![128, 8, 64, 64]⟩
abbrev S128x8x128x64 : Shape := ⟨4, ![128, 8, 128, 64]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x128x64 : Shape := ⟨4, ![1, 8, 128, 64]⟩
abbrev S8x128x64 : Shape := ⟨3, ![8, 128, 64]⟩
abbrev S1x8x128 : Shape := ⟨3, ![1, 8, 128]⟩
abbrev S8x128 : Shape := ⟨2, ![8, 128]⟩
abbrev S8x1x128 : Shape := ⟨3, ![8, 1, 128]⟩
abbrev S8192x8x128 : Shape := ⟨3, ![8192, 8, 128]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S128x1024x64, .bf16⟩
  | .hbm, ⟨4, _⟩ => ⟨S8192x1024, .bf16⟩
  | .hbm, ⟨5, _⟩ => ⟨S128x8x128, .f32⟩
  | .hbm, ⟨6, _⟩ => ⟨S8192x23808, .f32⟩
  | .hbm, ⟨7, _⟩ => ⟨S128, .f32⟩
  | .hbm, ⟨8, _⟩ => ⟨S128x64x8x128, .f32⟩
  | .hbm, ⟨9, _⟩ => ⟨S128x8x64x128, .f32⟩
  | .hbm, ⟨10, _⟩ => ⟨S8192x1024, .f32⟩
  | .hbm, ⟨11, _⟩ => ⟨S128x64x8x128, .f32⟩
  | .hbm, ⟨12, _⟩ => ⟨S128x8x64x128, .f32⟩
  | .hbm, ⟨13, _⟩ => ⟨S8192x1024, .f32⟩
  | .hbm, ⟨14, _⟩ => ⟨S128x64x8x128, .f32⟩
  | .hbm, ⟨15, _⟩ => ⟨S128x8x64x128, .f32⟩
  | .hbm, ⟨16, _⟩ => ⟨S8192x1024, .f32⟩
  | .hbm, ⟨17, _⟩ => ⟨S128x64x8x128, .f32⟩
  | .hbm, ⟨18, _⟩ => ⟨S128x8x64x128, .f32⟩
  | .hbm, ⟨19, _⟩ => ⟨S128x8x64x64, .f32⟩
  | .hbm, ⟨20, _⟩ => ⟨S128x1024x64, .f32⟩
  | .hbm, ⟨21, _⟩ => ⟨S128x8x128x64, .f32⟩
  | .hbm, ⟨22, _⟩ => ⟨S_, .f32⟩
  | .hbm, ⟨23, _⟩ => ⟨S8x128x128, .f32⟩
  | .hbm, ⟨24, _⟩ => ⟨S_, .f32⟩
  | .hbm, ⟨25, _⟩ => ⟨S128x8x64x128, .f32⟩
  | .hbm, ⟨26, _⟩ => ⟨S_, .i32⟩
  | .hbm, ⟨27, _⟩ => ⟨S128x8x64x128, .f32⟩
  | .hbm, ⟨28, _⟩ => ⟨S128x8x64x128, .f32⟩
  | .hbm, ⟨29, _⟩ => ⟨S128x8x64x64, .f32⟩
  | .hbm, ⟨30, _⟩ => ⟨S128x8x64x128, .f32⟩
  | .hbm, ⟨31, _⟩ => ⟨S128x8x128x64, .f32⟩
  | .hbm, ⟨32, _⟩ => ⟨S128x8x128, .f32⟩
  | .hbm, ⟨33, _⟩ => ⟨S_, .i32⟩
  | .hbm, ⟨34, _⟩ => ⟨S8x128x128, .f32⟩
  | .hbm, ⟨35, _⟩ => ⟨S128x8x64x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x64x128, .f32⟩
  | .hbm, ⟨42, _⟩ => ⟨S8x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x64x128, .f32⟩
  | .hbm, ⟨47, _⟩ => ⟨S8x64x128, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x64x64, .f32⟩
  | .hbm, ⟨52, _⟩ => ⟨S8x64x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x64x128, .f32⟩
  | .hbm, ⟨57, _⟩ => ⟨S8x64x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x128x64, .f32⟩
  | .hbm, ⟨62, _⟩ => ⟨S8x128x64, .f32⟩
  | .hbm, ⟨63, _⟩ => ⟨S_, .i32⟩
  | .hbm, ⟨64, _⟩ => ⟨S_, .i32⟩
  | .hbm, ⟨65, _⟩ => ⟨S1x8x128, .f32⟩
  | .hbm, ⟨66, _⟩ => ⟨S8x128, .f32⟩
  | .hbm, ⟨67, _⟩ => ⟨S8x64x128, .f32⟩
  | .hbm, ⟨68, _⟩ => ⟨S8x64x128, .f32⟩
  | .hbm, ⟨69, _⟩ => ⟨S8x64x128, .f32⟩
  | .hbm, ⟨70, _⟩ => ⟨S8x64x128, .f32⟩
  | .hbm, ⟨71, _⟩ => ⟨S8x64x128, .f32⟩
  | .hbm, ⟨72, _⟩ => ⟨S8x1x128, .f32⟩
  | .hbm, ⟨73, _⟩ => ⟨S8x128x128, .f32⟩
  | .hbm, ⟨74, _⟩ => ⟨S8x128x128, .f32⟩
  | .hbm, ⟨75, _⟩ => ⟨S8x128x128, .f32⟩
  | .hbm, ⟨76, _⟩ => ⟨S8x128x128, .f32⟩
  | .hbm, ⟨77, _⟩ => ⟨S1x8x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S128x8x64x128, .f32⟩
  | .hbm, ⟨82, _⟩ => ⟨S_, .i32⟩
  | .hbm, ⟨83, _⟩ => ⟨S_, .i32⟩
  | .hbm, ⟨84, _⟩ => ⟨S128x64x8x128, .f32⟩
  | .hbm, ⟨85, _⟩ => ⟨S8192x8x128, .f32⟩
  | .hbm, ⟨86, _⟩ => ⟨S8192x1024, .f32⟩
  | .hbm, ⟨87, _⟩ => ⟨S8192x8x128, .f32⟩
  | .hbm, ⟨88, _⟩ => ⟨S8192x8x128, .f32⟩
  | .hbm, ⟨89, _⟩ => ⟨S_, .f32⟩
  | .hbm, ⟨90, _⟩ => ⟨S8192x8, .f32⟩
  | .hbm, ⟨91, _⟩ => ⟨S8192x8x1, .f32⟩
  | .hbm, ⟨92, _⟩ => ⟨S_, .f32⟩
  | .hbm, ⟨93, _⟩ => ⟨S8192x8x1, .f32⟩
  | .hbm, ⟨94, _⟩ => ⟨S8192x8x1, .f32⟩
  | .hbm, ⟨95, _⟩ => ⟨S_, .f32⟩
  | .hbm, ⟨96, _⟩ => ⟨S8192x8x1, .f32⟩
  | .hbm, ⟨97, _⟩ => ⟨S8192x8x1, .f32⟩
  | .hbm, ⟨98, _⟩ => ⟨S8192x8x1, .f32⟩
  | .hbm, ⟨99, _⟩ => ⟨S8192x8x128, .f32⟩
  | .hbm, ⟨100, _⟩ => ⟨S8192x8x128, .f32⟩
  | .hbm, ⟨101, _⟩ => ⟨S1x1x128, .f32⟩
  | .hbm, ⟨102, _⟩ => ⟨S8192x8x128, .f32⟩
  | .hbm, ⟨103, _⟩ => ⟨S8192x8x128, .f32⟩
  | .hbm, ⟨104, _⟩ => ⟨S8192x8x128, .f32⟩
  | .hbm, ⟨105, _⟩ => ⟨S8192x8x128, .f32⟩
  | .hbm, ⟨106, _⟩ => ⟨S_, .f32⟩
  | .hbm, ⟨107, _⟩ => ⟨S8192x8x128, .f32⟩
  | .hbm, ⟨108, _⟩ => ⟨S8192x8x128, .f32⟩
  | .hbm, ⟨109, _⟩ => ⟨S_, .f32⟩
  | .hbm, ⟨110, _⟩ => ⟨S8192x8x128, .f32⟩
  | .hbm, ⟨111, _⟩ => ⟨S8192x8x128, .f32⟩
  | .hbm, ⟨112, _⟩ => ⟨S8192x8x128, .f32⟩
  | .hbm, ⟨113, _⟩ => ⟨S8192x8x128, .f32⟩
  | .hbm, ⟨114, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_while0c_c_14 : Ref sig .tc := ⟨.hbm, 36, rfl⟩
abbrev main_while0c_v43 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_v0 : Ref sig .tc := ⟨.hbm, 41, rfl⟩
abbrev main_while0b_v43 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_v0 : Ref sig .tc := ⟨.hbm, 46, rfl⟩
abbrev main_while0b_v44 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_c_1 : Ref sig .tc := ⟨.hbm, 50, rfl⟩
abbrev main_while0b_call2_v0 : Ref sig .tc := ⟨.hbm, 51, rfl⟩
abbrev main_while0b_v45 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_v0 : Ref sig .tc := ⟨.hbm, 56, rfl⟩
abbrev main_while0b_v46 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_c_1 : Ref sig .tc := ⟨.hbm, 60, rfl⟩
abbrev main_while0b_call4_v0 : Ref sig .tc := ⟨.hbm, 61, rfl⟩
abbrev main_while0b_v47 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_v0 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_v59 : Ref sig .tc := ⟨.hbm, 81, rfl⟩
abbrev main_while0b_c_14 : Ref sig .tc := ⟨.hbm, 82, rfl⟩
abbrev main_while0b_v60 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_cst_1 : Ref sig .tc := ⟨.hbm, 89, rfl⟩
abbrev main_v22 : Ref sig .tc := ⟨.hbm, 90, rfl⟩
abbrev main_v23 : Ref sig .tc := ⟨.hbm, 91, rfl⟩
abbrev main_cst_2 : Ref sig .tc := ⟨.hbm, 92, rfl⟩
abbrev main_v24 : Ref sig .tc := ⟨.hbm, 93, rfl⟩
abbrev main_v25 : Ref sig .tc := ⟨.hbm, 94, rfl⟩
abbrev main_cst_3 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_4 : Ref sig .tc := ⟨.hbm, 106, rfl⟩
abbrev main_v36 : Ref sig .tc := ⟨.hbm, 107, rfl⟩
abbrev main_v37 : Ref sig .tc := ⟨.hbm, 108, rfl⟩
abbrev main_cst_5 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩

abbrev nD : Nat := 1
abbrev τ : Topo := Topo.v7x

variable {F : FTy → Type} [FloatOps F]

abbrev main_while0_count : Scf.Loop 32 := ⟨0#32, 128#32, 1#32⟩
-- ==== Proj.lean ====
abbrev S8192x2048 : Shape := ⟨2, ![8192, 2048]⟩
abbrev S2048 : Shape := ⟨1, ![2048]⟩
abbrev S2048x23568 : Shape := ⟨2, ![2048, 23568]⟩
abbrev S_ : Shape := ⟨0, ![]⟩
abbrev S2048x240 : Shape := ⟨2, ![2048, 240]⟩
abbrev S2048x17408 : Shape := ⟨2, ![2048, 17408]⟩
abbrev S2048x6144 : Shape := ⟨2, ![2048, 6144]⟩
abbrev S2048x16 : Shape := ⟨2, ![2048, 16]⟩
abbrev S2048x23808 : Shape := ⟨2, ![2048, 23808]⟩
abbrev S1x2048 : Shape := ⟨2, ![1, 2048]⟩
abbrev S8192x23808 : Shape := ⟨2, ![8192, 23808]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S3x3072 : Shape := ⟨2, ![3, 3072]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x23568, .f32⟩
  | .hbm, ⟨3, _⟩ => ⟨S_, .f32⟩
  | .hbm, ⟨4, _⟩ => ⟨S2048x240, .f32⟩
  | .hbm, ⟨5, _⟩ => ⟨S2048x17408, .f32⟩
  | .hbm, ⟨6, _⟩ => ⟨S2048x6144, .f32⟩
  | .hbm, ⟨7, _⟩ => ⟨S2048x16, .f32⟩
  | .hbm, ⟨8, _⟩ => ⟨S2048x23808, .f32⟩
  | .hbm, ⟨9, _⟩ => ⟨S2048x23808, .bf16⟩
  | .hbm, ⟨10, _⟩ => ⟨S1x2048, .f32⟩
  | .hbm, ⟨11, _⟩ => ⟨S8192x23808, .f32⟩
  | .hbm, ⟨12, _⟩ => ⟨S3x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x2048 : Shape := ⟨2, ![8192, 2048]⟩
abbrev S2048 : Shape := ⟨1, ![2048]⟩
abbrev S2048x23568 : Shape := ⟨2, ![2048, 23568]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x23568 : Shape := ⟨2, ![8192, 23568]⟩
abbrev S8192x17408 : Shape := ⟨2, ![8192, 17408]⟩
abbrev S8192x6144 : Shape := ⟨2, ![8192, 6144]⟩
abbrev S8192x16 : Shape := ⟨2, ![8192, 16]⟩
abbrev S8192x240 : Shape := ⟨2, ![8192, 240]⟩
abbrev S8192x23808 : Shape := ⟨2, ![8192, 23808]⟩
abbrev S3x3072 : Shape := ⟨2, ![3, 3072]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x23568, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x23568, .f32⟩
  | .hbm, ⟨20, _⟩ => ⟨S8192x17408, .f32⟩
  | .hbm, ⟨21, _⟩ => ⟨S8192x6144, .f32⟩
  | .hbm, ⟨22, _⟩ => ⟨S8192x16, .f32⟩
  | .hbm, ⟨23, _⟩ => ⟨S_, .f32⟩
  | .hbm, ⟨24, _⟩ => ⟨S8192x240, .f32⟩
  | .hbm, ⟨25, _⟩ => ⟨S8192x23808, .f32⟩
  | .hbm, ⟨26, _⟩ => ⟨S3x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Merge.lean ====
abbrev S8192x1024 : Shape := ⟨2, ![8192, 1024]⟩
abbrev S8192x23808 : Shape := ⟨2, ![8192, 23808]⟩
abbrev S3072x2048 : Shape := ⟨2, ![3072, 2048]⟩
abbrev S8192x2048 : Shape := ⟨2, ![8192, 2048]⟩
abbrev S512x1024 : Shape := ⟨2, ![512, 1024]⟩
abbrev S512x512 : Shape := ⟨2, ![512, 512]⟩
abbrev S3072x512 : Shape := ⟨2, ![3072, 512]⟩
abbrev S3x512x1024 : Shape := ⟨3, ![3, 512, 1024]⟩
abbrev S1x512x1024 : Shape := ⟨3, ![1, 512, 1024]⟩
abbrev S1024x512 : Shape := ⟨2, ![1024, 512]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x23808, .f32⟩
  | .hbm, ⟨4, _⟩ => ⟨S3072x2048, .f32⟩
  | .hbm, ⟨5, _⟩ => ⟨S3072x2048, .bf16⟩
  | .hbm, ⟨6, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S3072x512, .bf16⟩
  | .local _ .vmem, ⟨13, _⟩ => ⟨S3072x512, .bf16⟩
  | .local _ .vmem, ⟨14, _⟩ => ⟨S512x512, .f32⟩
  | .local _ .vmem, ⟨15, _⟩ => ⟨S512x512, .f32⟩
  | .local _ .vmem, ⟨16, _⟩ => ⟨S3x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3072x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8192x1024 : Shape := ⟨2, ![8192, 1024]⟩
abbrev S8192x23808 : Shape := ⟨2, ![8192, 23808]⟩
abbrev S3072x2048 : Shape := ⟨2, ![3072, 2048]⟩
abbrev S1024x2048 : Shape := ⟨2, ![1024, 2048]⟩
abbrev S8192x6144 : Shape := ⟨2, ![8192, 6144]⟩
abbrev S_ : Shape := ⟨0, ![]⟩
abbrev S8192x2048 : Shape := ⟨2, ![8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x23808, .f32⟩
  | .hbm, ⟨4, _⟩ => ⟨S3072x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S8192x6144, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Sample.lean ====
abbrev S32x1x2048 : Shape := ⟨3, ![32, 1, 2048]⟩
abbrev S32x30x1024 : Shape := ⟨3, ![32, 30, 1024]⟩
abbrev S32x2x128x8x128 : Shape := ⟨5, ![32, 2, 128, 8, 128]⟩
abbrev S32x2x512x8x128 : Shape := ⟨5, ![32, 2, 512, 8, 128]⟩
abbrev S32x2x2048x8x128 : Shape := ⟨5, ![32, 2, 2048, 8, 128]⟩
abbrev S32x3x3072 : Shape := ⟨3, ![32, 3, 3072]⟩
abbrev S2048 : Shape := ⟨1, ![2048]⟩
abbrev S2048x23568 : Shape := ⟨2, ![2048, 23568]⟩
abbrev S128 : Shape := ⟨1, ![128]⟩
abbrev S32x2048 : Shape := ⟨2, ![32, 2048]⟩
abbrev S_ : Shape := ⟨0, ![]⟩
abbrev S2048x240 : Shape := ⟨2, ![2048, 240]⟩
abbrev S2048x17408 : Shape := ⟨2, ![2048, 17408]⟩
abbrev S2048x6144 : Shape := ⟨2, ![2048, 6144]⟩
abbrev S2048x16 : Shape := ⟨2, ![2048, 16]⟩
abbrev S2048x23808 : Shape := ⟨2, ![2048, 23808]⟩
abbrev S1x2048 : Shape := ⟨2, ![1, 2048]⟩
abbrev S32x23808 : Shape := ⟨2, ![32, 23808]⟩
abbrev S2048x768 : Shape := ⟨2, ![2048, 768]⟩
abbrev S32x768 : Shape := ⟨2, ![32, 768]⟩
abbrev S32 : Shape := ⟨1, ![32]⟩
abbrev S32x1 : Shape := ⟨2, ![32, 1]⟩
abbrev S32x1x23808 : Shape := ⟨3, ![32, 1, 23808]⟩
abbrev S32x1x1024 : Shape := ⟨3, ![32, 1, 1024]⟩
abbrev S32x31x1024 : Shape := ⟨3, ![32, 31, 1024]⟩
abbrev S32x1x3072 : Shape := ⟨3, ![32, 1, 3072]⟩
abbrev S32x1x3x8x128 : Shape := ⟨5, ![32, 1, 3, 8, 128]⟩
abbrev S32x1x3x8 : Shape := ⟨4, ![32, 1, 3, 8]⟩
abbrev S32x1x3x8x1 : Shape := ⟨5, ![32, 1, 3, 8, 1]⟩
abbrev S1x1x1x1x128 : Shape := ⟨5, ![1, 1, 1, 1, 128]⟩
abbrev S32x1x128x8x128 : Shape := ⟨5, ![32, 1, 128, 8, 128]⟩
abbrev S32x128x8x128 : Shape := ⟨4, ![32, 128, 8, 128]⟩
abbrev S32x1x1x8x128 : Shape := ⟨5, ![32, 1, 1, 8, 128]⟩
abbrev S32x1x8x128 : Shape := ⟨4, ![32, 1, 8, 128]⟩
abbrev S32x129x8x128 : Shape := ⟨4, ![32, 129, 8, 128]⟩
abbrev S32x1x512x8x128 : Shape := ⟨5, ![32, 1, 512, 8, 128]⟩
abbrev S32x512x8x128 : Shape := ⟨4, ![32, 512, 8, 128]⟩
abbrev S32x513x8x128 : Shape := ⟨4, ![32, 513, 8, 128]⟩
abbrev S32x1x2048x8x128 : Shape := ⟨5, ![32, 1, 2048, 8, 128]⟩
abbrev S32x2048x8x128 : Shape := ⟨4, ![32, 2048, 8, 128]⟩
abbrev S32x2049x8x128 : Shape := ⟨4, ![32, 2049, 8, 128]⟩
abbrev S32x4x3072 : Shape := ⟨3, ![32, 4, 3072]⟩

abbrev nBuf : Space → Nat
  | .hbm => 101
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S32x30x1024, .f32⟩
  | .hbm, ⟨2, _⟩ => ⟨S32x2x128x8x128, .f32⟩
  | .hbm, ⟨3, _⟩ => ⟨S32x2x512x8x128, .f32⟩
  | .hbm, ⟨4, _⟩ => ⟨S32x2x2048x8x128, .f32⟩
  | .hbm, ⟨5, _⟩ => ⟨S32x3x3072, .f32⟩
  | .hbm, ⟨6, _⟩ => ⟨S2048, .f32⟩
  | .hbm, ⟨7, _⟩ => ⟨S2048x23568, .f32⟩
  | .hbm, ⟨8, _⟩ => ⟨S128, .f32⟩
  | .hbm, ⟨9, _⟩ => ⟨S32x2048, .f32⟩
  | .hbm, ⟨10, _⟩ => ⟨S_, .f32⟩
  | .hbm, ⟨11, _⟩ => ⟨S2048x240, .f32⟩
  | .hbm, ⟨12, _⟩ => ⟨S2048x17408, .f32⟩
  | .hbm, ⟨13, _⟩ => ⟨S2048x6144, .f32⟩
  | .hbm, ⟨14, _⟩ => ⟨S2048x16, .f32⟩
  | .hbm, ⟨15, _⟩ => ⟨S2048x23808, .f32⟩
  | .hbm, ⟨16, _⟩ => ⟨S2048x23808, .bf16⟩
  | .hbm, ⟨17, _⟩ => ⟨S1x2048, .f32⟩
  | .hbm, ⟨18, _⟩ => ⟨S32x23808, .f32⟩
  | .hbm, ⟨19, _⟩ => ⟨S32x1x23808, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x31x1024, .f32⟩
  | .hbm, ⟨32, _⟩ => ⟨S32x30x1024, .f32⟩
  | .hbm, ⟨33, _⟩ => ⟨S32x1x3072, .f32⟩
  | .hbm, ⟨34, _⟩ => ⟨S32x1x3x8x128, .f32⟩
  | .hbm, ⟨35, _⟩ => ⟨S32x1x3x8x128, .f32⟩
  | .hbm, ⟨36, _⟩ => ⟨S_, .f32⟩
  | .hbm, ⟨37, _⟩ => ⟨S32x1x3x8, .f32⟩
  | .hbm, ⟨38, _⟩ => ⟨S32x1x3x8x1, .f32⟩
  | .hbm, ⟨39, _⟩ => ⟨S_, .f32⟩
  | .hbm, ⟨40, _⟩ => ⟨S32x1x3x8x1, .f32⟩
  | .hbm, ⟨41, _⟩ => ⟨S32x1x3x8x1, .f32⟩
  | .hbm, ⟨42, _⟩ => ⟨S_, .f32⟩
  | .hbm, ⟨43, _⟩ => ⟨S32x1x3x8x1, .f32⟩
  | .hbm, ⟨44, _⟩ => ⟨S32x1x3x8x1, .f32⟩
  | .hbm, ⟨45, _⟩ => ⟨S32x1x3x8x1, .f32⟩
  | .hbm, ⟨46, _⟩ => ⟨S32x1x3x8x128, .f32⟩
  | .hbm, ⟨47, _⟩ => ⟨S32x1x3x8x128, .f32⟩
  | .hbm, ⟨48, _⟩ => ⟨S1x1x1x1x128, .f32⟩
  | .hbm, ⟨49, _⟩ => ⟨S32x1x3x8x128, .f32⟩
  | .hbm, ⟨50, _⟩ => ⟨S32x1x3x8x128, .f32⟩
  | .hbm, ⟨51, _⟩ => ⟨S32x1x3072, .f32⟩
  | .hbm, ⟨52, _⟩ => ⟨S32x1x3x8x128, .f32⟩
  | .hbm, ⟨53, _⟩ => ⟨S32x1x128x8x128, .f32⟩
  | .hbm, ⟨54, _⟩ => ⟨S32x128x8x128, .f32⟩
  | .hbm, ⟨55, _⟩ => ⟨S32x1x1x8x128, .f32⟩
  | .hbm, ⟨56, _⟩ => ⟨S32x1x8x128, .f32⟩
  | .hbm, ⟨57, _⟩ => ⟨S32x129x8x128, .f32⟩
  | .hbm, ⟨58, _⟩ => ⟨S32x1x128x8x128, .f32⟩
  | .hbm, ⟨59, _⟩ => ⟨S32x128x8x128, .f32⟩
  | .hbm, ⟨60, _⟩ => ⟨S32x1x1x8x128, .f32⟩
  | .hbm, ⟨61, _⟩ => ⟨S32x1x8x128, .f32⟩
  | .hbm, ⟨62, _⟩ => ⟨S32x129x8x128, .f32⟩
  | .hbm, ⟨63, _⟩ => ⟨S32x128x8x128, .f32⟩
  | .hbm, ⟨64, _⟩ => ⟨S32x128x8x128, .f32⟩
  | .hbm, ⟨65, _⟩ => ⟨S32x1x128x8x128, .f32⟩
  | .hbm, ⟨66, _⟩ => ⟨S32x1x128x8x128, .f32⟩
  | .hbm, ⟨67, _⟩ => ⟨S32x2x128x8x128, .f32⟩
  | .hbm, ⟨68, _⟩ => ⟨S32x1x512x8x128, .f32⟩
  | .hbm, ⟨69, _⟩ => ⟨S32x512x8x128, .f32⟩
  | .hbm, ⟨70, _⟩ => ⟨S32x1x1x8x128, .f32⟩
  | .hbm, ⟨71, _⟩ => ⟨S32x1x8x128, .f32⟩
  | .hbm, ⟨72, _⟩ => ⟨S32x513x8x128, .f32⟩
  | .hbm, ⟨73, _⟩ => ⟨S32x1x512x8x128, .f32⟩
  | .hbm, ⟨74, _⟩ => ⟨S32x512x8x128, .f32⟩
  | .hbm, ⟨75, _⟩ => ⟨S32x1x1x8x128, .f32⟩
  | .hbm, ⟨76, _⟩ => ⟨S32x1x8x128, .f32⟩
  | .hbm, ⟨77, _⟩ => ⟨S32x513x8x128, .f32⟩
  | .hbm, ⟨78, _⟩ => ⟨S32x512x8x128, .f32⟩
  | .hbm, ⟨79, _⟩ => ⟨S32x512x8x128, .f32⟩
  | .hbm, ⟨80, _⟩ => ⟨S32x1x512x8x128, .f32⟩
  | .hbm, ⟨81, _⟩ => ⟨S32x1x512x8x128, .f32⟩
  | .hbm, ⟨82, _⟩ => ⟨S32x2x512x8x128, .f32⟩
  | .hbm, ⟨83, _⟩ => ⟨S32x1x2048x8x128, .f32⟩
  | .hbm, ⟨84, _⟩ => ⟨S32x2048x8x128, .f32⟩
  | .hbm, ⟨85, _⟩ => ⟨S32x1x1x8x128, .f32⟩
  | .hbm, ⟨86, _⟩ => ⟨S32x1x8x128, .f32⟩
  | .hbm, ⟨87, _⟩ => ⟨S32x2049x8x128, .f32⟩
  | .hbm, ⟨88, _⟩ => ⟨S32x1x2048x8x128, .f32⟩
  | .hbm, ⟨89, _⟩ => ⟨S32x2048x8x128, .f32⟩
  | .hbm, ⟨90, _⟩ => ⟨S32x1x1x8x128, .f32⟩
  | .hbm, ⟨91, _⟩ => ⟨S32x1x8x128, .f32⟩
  | .hbm, ⟨92, _⟩ => ⟨S32x2049x8x128, .f32⟩
  | .hbm, ⟨93, _⟩ => ⟨S32x2048x8x128, .f32⟩
  | .hbm, ⟨94, _⟩ => ⟨S32x2048x8x128, .f32⟩
  | .hbm, ⟨95, _⟩ => ⟨S32x1x2048x8x128, .f32⟩
  | .hbm, ⟨96, _⟩ => ⟨S32x1x2048x8x128, .f32⟩
  | .hbm, ⟨97, _⟩ => ⟨S32x2x2048x8x128, .f32⟩
  | .hbm, ⟨98, _⟩ => ⟨S32x1x3072, .f32⟩
  | .hbm, ⟨99, _⟩ => ⟨S32x4x3072, .f32⟩
  | .hbm, ⟨100, _⟩ => ⟨S32x3x3072, .f32⟩
  | .local _ .vmem, ⟨0, _⟩ => ⟨S32x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S32x768, .f32⟩
  | .local _ .vmem, ⟨5, _⟩ => ⟨S32x768, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleRefIdeal.lean ====
abbrev S32x1x2048 : Shape := ⟨3, ![32, 1, 2048]⟩
abbrev S32x30x1024 : Shape := ⟨3, ![32, 30, 1024]⟩
abbrev S32x2x128x8x128 : Shape := ⟨5, ![32, 2, 128, 8, 128]⟩
abbrev S32x2x512x8x128 : Shape := ⟨5, ![32, 2, 512, 8, 128]⟩
abbrev S32x2x2048x8x128 : Shape := ⟨5, ![32, 2, 2048, 8, 128]⟩
abbrev S32x3x3072 : Shape := ⟨3, ![32, 3, 3072]⟩
abbrev S2048 : Shape := ⟨1, ![2048]⟩
abbrev S2048x23568 : Shape := ⟨2, ![2048, 23568]⟩
abbrev S128 : Shape := ⟨1, ![128]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x1x23568 : Shape := ⟨3, ![32, 1, 23568]⟩
abbrev S32x1x1024 : Shape := ⟨3, ![32, 1, 1024]⟩
abbrev S32x31x1024 : Shape := ⟨3, ![32, 31, 1024]⟩
abbrev S32x1x3072 : Shape := ⟨3, ![32, 1, 3072]⟩
abbrev S32x1x3x8x128 : Shape := ⟨5, ![32, 1, 3, 8, 128]⟩
abbrev S32x1x3x8 : Shape := ⟨4, ![32, 1, 3, 8]⟩
abbrev S32x1x3x8x1 : Shape := ⟨5, ![32, 1, 3, 8, 1]⟩
abbrev S1x1x1x1x128 : Shape := ⟨5, ![1, 1, 1, 1, 128]⟩
abbrev S32x1x128x8x128 : Shape := ⟨5, ![32, 1, 128, 8, 128]⟩
abbrev S32x128x8x128 : Shape := ⟨4, ![32, 128, 8, 128]⟩
abbrev S32x1x1x8x128 : Shape := ⟨5, ![32, 1, 1, 8, 128]⟩
abbrev S32x1x8x128 : Shape := ⟨4, ![32, 1, 8, 128]⟩
abbrev S32x129x8x128 : Shape := ⟨4, ![32, 129, 8, 128]⟩
abbrev S32x1x512x8x128 : Shape := ⟨5, ![32, 1, 512, 8, 128]⟩
abbrev S32x512x8x128 : Shape := ⟨4, ![32, 512, 8, 128]⟩
abbrev S32x513x8x128 : Shape := ⟨4, ![32, 513, 8, 128]⟩
abbrev S32x1x2048x8x128 : Shape := ⟨5, ![32, 1, 2048, 8, 128]⟩
abbrev S32x2048x8x128 : Shape := ⟨4, ![32, 2048, 8, 128]⟩
abbrev S32x2049x8x128 : Shape := ⟨4, ![32, 2049, 8, 128]⟩
abbrev S32x4x3072 : Shape := ⟨3, ![32, 4, 3072]⟩

abbrev nBuf : Space → Nat
  | .hbm => 107
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S32x30x1024, .f32⟩
  | .hbm, ⟨2, _⟩ => ⟨S32x2x128x8x128, .f32⟩
  | .hbm, ⟨3, _⟩ => ⟨S32x2x512x8x128, .f32⟩
  | .hbm, ⟨4, _⟩ => ⟨S32x2x2048x8x128, .f32⟩
  | .hbm, ⟨5, _⟩ => ⟨S32x3x3072, .f32⟩
  | .hbm, ⟨6, _⟩ => ⟨S2048, .f32⟩
  | .hbm, ⟨7, _⟩ => ⟨S2048x23568, .f32⟩
  | .hbm, ⟨8, _⟩ => ⟨S128, .f32⟩
  | .hbm, ⟨9, _⟩ => ⟨S32x1x2048, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x2048, .f32⟩
  | .hbm, ⟨21, _⟩ => ⟨S32x1x2048, .f32⟩
  | .hbm, ⟨22, _⟩ => ⟨S1x1x2048, .f32⟩
  | .hbm, ⟨23, _⟩ => ⟨S32x1x2048, .f32⟩
  | .hbm, ⟨24, _⟩ => ⟨S32x1x2048, .f32⟩
  | .hbm, ⟨25, _⟩ => ⟨S32x1x23568, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S_, .f32⟩
  | .hbm, ⟨34, _⟩ => ⟨S32x1x1024, .f32⟩
  | .hbm, ⟨35, _⟩ => ⟨S32x1x1024, .f32⟩
  | .hbm, ⟨36, _⟩ => ⟨S32x1x1024, .f32⟩
  | .hbm, ⟨37, _⟩ => ⟨S32x31x1024, .f32⟩
  | .hbm, ⟨38, _⟩ => ⟨S32x30x1024, .f32⟩
  | .hbm, ⟨39, _⟩ => ⟨S32x1x3072, .f32⟩
  | .hbm, ⟨40, _⟩ => ⟨S32x1x3x8x128, .f32⟩
  | .hbm, ⟨41, _⟩ => ⟨S32x1x3x8x128, .f32⟩
  | .hbm, ⟨42, _⟩ => ⟨S_, .f32⟩
  | .hbm, ⟨43, _⟩ => ⟨S32x1x3x8, .f32⟩
  | .hbm, ⟨44, _⟩ => ⟨S32x1x3x8x1, .f32⟩
  | .hbm, ⟨45, _⟩ => ⟨S_, .f32⟩
  | .hbm, ⟨46, _⟩ => ⟨S32x1x3x8x1, .f32⟩
  | .hbm, ⟨47, _⟩ => ⟨S32x1x3x8x1, .f32⟩
  | .hbm, ⟨48, _⟩ => ⟨S_, .f32⟩
  | .hbm, ⟨49, _⟩ => ⟨S32x1x3x8x1, .f32⟩
  | .hbm, ⟨50, _⟩ => ⟨S32x1x3x8x1, .f32⟩
  | .hbm, ⟨51, _⟩ => ⟨S32x1x3x8x1, .f32⟩
  | .hbm, ⟨52, _⟩ => ⟨S32x1x3x8x128, .f32⟩
  | .hbm, ⟨53, _⟩ => ⟨S32x1x3x8x128, .f32⟩
  | .hbm, ⟨54, _⟩ => ⟨S1x1x1x1x128, .f32⟩
  | .hbm, ⟨55, _⟩ => ⟨S32x1x3x8x128, .f32⟩
  | .hbm, ⟨56, _⟩ => ⟨S32x1x3x8x128, .f32⟩
  | .hbm, ⟨57, _⟩ => ⟨S32x1x3072, .f32⟩
  | .hbm, ⟨58, _⟩ => ⟨S32x1x3x8x128, .f32⟩
  | .hbm, ⟨59, _⟩ => ⟨S32x1x128x8x128, .f32⟩
  | .hbm, ⟨60, _⟩ => ⟨S32x128x8x128, .f32⟩
  | .hbm, ⟨61, _⟩ => ⟨S32x1x1x8x128, .f32⟩
  | .hbm, ⟨62, _⟩ => ⟨S32x1x8x128, .f32⟩
  | .hbm, ⟨63, _⟩ => ⟨S32x129x8x128, .f32⟩
  | .hbm, ⟨64, _⟩ => ⟨S32x128x8x128, .f32⟩
  | .hbm, ⟨65, _⟩ => ⟨S32x1x128x8x128, .f32⟩
  | .hbm, ⟨66, _⟩ => ⟨S32x128x8x128, .f32⟩
  | .hbm, ⟨67, _⟩ => ⟨S32x1x1x8x128, .f32⟩
  | .hbm, ⟨68, _⟩ => ⟨S32x1x8x128, .f32⟩
  | .hbm, ⟨69, _⟩ => ⟨S32x129x8x128, .f32⟩
  | .hbm, ⟨70, _⟩ => ⟨S32x128x8x128, .f32⟩
  | .hbm, ⟨71, _⟩ => ⟨S32x1x128x8x128, .f32⟩
  | .hbm, ⟨72, _⟩ => ⟨S32x1x128x8x128, .f32⟩
  | .hbm, ⟨73, _⟩ => ⟨S32x2x128x8x128, .f32⟩
  | .hbm, ⟨74, _⟩ => ⟨S32x1x512x8x128, .f32⟩
  | .hbm, ⟨75, _⟩ => ⟨S32x512x8x128, .f32⟩
  | .hbm, ⟨76, _⟩ => ⟨S32x1x1x8x128, .f32⟩
  | .hbm, ⟨77, _⟩ => ⟨S32x1x8x128, .f32⟩
  | .hbm, ⟨78, _⟩ => ⟨S32x513x8x128, .f32⟩
  | .hbm, ⟨79, _⟩ => ⟨S32x512x8x128, .f32⟩
  | .hbm, ⟨80, _⟩ => ⟨S32x1x512x8x128, .f32⟩
  | .hbm, ⟨81, _⟩ => ⟨S32x512x8x128, .f32⟩
  | .hbm, ⟨82, _⟩ => ⟨S32x1x1x8x128, .f32⟩
  | .hbm, ⟨83, _⟩ => ⟨S32x1x8x128, .f32⟩
  | .hbm, ⟨84, _⟩ => ⟨S32x513x8x128, .f32⟩
  | .hbm, ⟨85, _⟩ => ⟨S32x512x8x128, .f32⟩
  | .hbm, ⟨86, _⟩ => ⟨S32x1x512x8x128, .f32⟩
  | .hbm, ⟨87, _⟩ => ⟨S32x1x512x8x128, .f32⟩
  | .hbm, ⟨88, _⟩ => ⟨S32x2x512x8x128, .f32⟩
  | .hbm, ⟨89, _⟩ => ⟨S32x1x2048x8x128, .f32⟩
  | .hbm, ⟨90, _⟩ => ⟨S32x2048x8x128, .f32⟩
  | .hbm, ⟨91, _⟩ => ⟨S32x1x1x8x128, .f32⟩
  | .hbm, ⟨92, _⟩ => ⟨S32x1x8x128, .f32⟩
  | .hbm, ⟨93, _⟩ => ⟨S32x2049x8x128, .f32⟩
  | .hbm, ⟨94, _⟩ => ⟨S32x2048x8x128, .f32⟩
  | .hbm, ⟨95, _⟩ => ⟨S32x1x2048x8x128, .f32⟩
  | .hbm, ⟨96, _⟩ => ⟨S32x2048x8x128, .f32⟩
  | .hbm, ⟨97, _⟩ => ⟨S32x1x1x8x128, .f32⟩
  | .hbm, ⟨98, _⟩ => ⟨S32x1x8x128, .f32⟩
  | .hbm, ⟨99, _⟩ => ⟨S32x2049x8x128, .f32⟩
  | .hbm, ⟨100, _⟩ => ⟨S32x2048x8x128, .f32⟩
  | .hbm, ⟨101, _⟩ => ⟨S32x1x2048x8x128, .f32⟩
  | .hbm, ⟨102, _⟩ => ⟨S32x1x2048x8x128, .f32⟩
  | .hbm, ⟨103, _⟩ => ⟨S32x2x2048x8x128, .f32⟩
  | .hbm, ⟨104, _⟩ => ⟨S32x1x3072, .f32⟩
  | .hbm, ⟨105, _⟩ => ⟨S32x4x3072, .f32⟩
  | .hbm, ⟨106, _⟩ => ⟨S32x3x3072, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩

abbrev nD : Nat := 1
abbrev τ : Topo := Topo.v7x

variable {F : FTy → Type} [FloatOps F]
-- ==== OutS.lean ====
abbrev S32x2048 : Shape := ⟨2, ![32, 2048]⟩
abbrev S32x1x2048 : Shape := ⟨3, ![32, 1, 2048]⟩
abbrev S2048x2048 : Shape := ⟨2, ![2048, 2048]⟩
abbrev S_ : Shape := ⟨0, ![]⟩
abbrev S2048 : Shape := ⟨1, ![2048]⟩
abbrev S1x2048 : Shape := ⟨2, ![1, 2048]⟩
abbrev S2048x512 : Shape := ⟨2, ![2048, 512]⟩
abbrev S32x512 : Shape := ⟨2, ![32, 512]⟩

abbrev nBuf : Space → Nat
  | .hbm => 10
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S32x1x2048, .f32⟩
  | .hbm, ⟨2, _⟩ => ⟨S2048x2048, .f32⟩
  | .hbm, ⟨3, _⟩ => ⟨S2048x2048, .bf16⟩
  | .hbm, ⟨4, _⟩ => ⟨S32x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S32x2048, .f32⟩
  | .hbm, ⟨9, _⟩ => ⟨S32x1x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutSRefIdeal.lean ====
abbrev S32x2048 : Shape := ⟨2, ![32, 2048]⟩
abbrev S32x1x2048 : Shape := ⟨3, ![32, 1, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x1x2048, .f32⟩
  | .hbm, ⟨2, _⟩ => ⟨S2048x2048, .f32⟩
  | .hbm, ⟨3, _⟩ => ⟨S32x2048, .f32⟩
  | .hbm, ⟨4, _⟩ => ⟨S32x1x2048, .f32⟩
  | .hbm, ⟨5, _⟩ => ⟨S32x1x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Conv.lean ====
abbrev S8192x23808 : Shape := ⟨2, ![8192, 23808]⟩
abbrev S31x1024 : Shape := ⟨2, ![31, 1024]⟩
abbrev S1024 : Shape := ⟨1, ![1024]⟩
abbrev S1x1024 : Shape := ⟨2, ![1, 1024]⟩
abbrev S8192x1024 : Shape := ⟨2, ![8192, 1024]⟩
abbrev S30x1024 : Shape := ⟨2, ![30, 1024]⟩
abbrev S256x1024 : Shape := ⟨2, ![256, 1024]⟩
abbrev S288x1024 : Shape := ⟨2, ![288, 1024]⟩
abbrev S32x1024 : Shape := ⟨2, ![32, 1024]⟩
abbrev S64x1024 : Shape := ⟨2, ![64, 1024]⟩
abbrev S1x256 : Shape := ⟨2, ![1, 256]⟩
abbrev S64x256 : Shape := ⟨2, ![64, 256]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x23808, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S30x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S30x1024, .f32⟩
  | .local _ .vmem, ⟨13, _⟩ => ⟨S288x1024, .f32⟩
  | .local _ .vmem, ⟨14, _⟩ => ⟨S256x1024, .f32⟩
  | _, _ => ⟨S8192x23808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v2754 : BitVec 1 := Scalar.cmpi .eq arg0 c31_i32
  let v2755 : BitVec 32 := Scalar.extui v2754
  let c0_i32_2002 : BitVec 32 := 0#32
  let v2756 : BitVec 1 := Scalar.cmpi .ne v2755 c0_i32_2002
  v2756

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S30x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvRefIdeal.lean ====
abbrev S8192x23808 : Shape := ⟨2, ![8192, 23808]⟩
abbrev S31x1024 : Shape := ⟨2, ![31, 1024]⟩
abbrev S1024 : Shape := ⟨1, ![1024]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 286
  | .vmem => 0
  | .smem => 0
  | _ => 0

abbrev hbmTy0_0 (i : Nat) : BufTy := match i % 128 with
  | 0 => ⟨S8192x23808, .f32⟩
  | 1 => ⟨S31x1024, .f32⟩
  | 2 => ⟨S1024, .f32⟩
  | 3 => ⟨S1024, .f32⟩
  | 4 => ⟨S1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S_, .f32⟩
  | 18 => ⟨S30x1024, .f32⟩
  | 19 => ⟨S8222x1024, .f32⟩
  | 20 => ⟨S1x1024, .f32⟩
  | 21 => ⟨S1024, .f32⟩
  | 22 => ⟨S8192x1024, .f32⟩
  | 23 => ⟨S1x1024, .f32⟩
  | 24 => ⟨S8192x1024, .f32⟩
  | 25 => ⟨S8192x1024, .f32⟩
  | 26 => ⟨S1x1024, .f32⟩
  | 27 => ⟨S1024, .f32⟩
  | 28 => ⟨S8192x1024, .f32⟩
  | 29 => ⟨S1x1024, .f32⟩
  | 30 => ⟨S8192x1024, .f32⟩
  | 31 => ⟨S8192x1024, .f32⟩
  | 32 => ⟨S8192x1024, .f32⟩
  | 33 => ⟨S1x1024, .f32⟩
  | 34 => ⟨S1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S1x1024, .f32⟩
  | 41 => ⟨S1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S1x1024, .f32⟩
  | 48 => ⟨S1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S1x1024, .f32⟩
  | 55 => ⟨S1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S1x1024, .f32⟩
  | 62 => ⟨S1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S1x1024, .f32⟩
  | 69 => ⟨S1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S1x1024, .f32⟩
  | 83 => ⟨S1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S8192x1024, .f32⟩
  | 99 => ⟨S1x1024, .f32⟩
  | 100 => ⟨S8192x1024, .f32⟩
  | 101 => ⟨S8192x1024, .f32⟩
  | 102 => ⟨S8192x1024, .f32⟩
  | 103 => ⟨S1x1024, .f32⟩
  | 104 => ⟨S1024, .f32⟩
  | 105 => ⟨S8192x1024, .f32⟩
  | 106 => ⟨S1x1024, .f32⟩
  | 107 => ⟨S8192x1024, .f32⟩
  | 108 => ⟨S8192x1024, .f32⟩
  | 109 => ⟨S8192x1024, .f32⟩
  | 110 => ⟨S1x1024, .f32⟩
  | 111 => ⟨S1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S1x1024, .f32⟩
  | 118 => ⟨S1024, .f32⟩
  | 119 => ⟨S8192x1024, .f32⟩
  | 120 => ⟨S1x1024, .f32⟩
  | 121 => ⟨S8192x1024, .f32⟩
  | 122 => ⟨S8192x1024, .f32⟩
  | 123 => ⟨S8192x1024, .f32⟩
  | 124 => ⟨S1x1024, .f32⟩
  | 125 => ⟨S1024, .f32⟩
  | 126 => ⟨S8192x1024, .f32⟩
  | 127 => ⟨S1x1024, .f32⟩
  | _ => ⟨S8192x23808, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024, .f32⟩
  | 5 => ⟨S8192x1024, .f32⟩
  | 6 => ⟨S1x1024, .f32⟩
  | 7 => ⟨S8192x1024, .f32⟩
  | 8 => ⟨S8192x1024, .f32⟩
  | 9 => ⟨S8192x1024, .f32⟩
  | 10 => ⟨S1x1024, .f32⟩
  | 11 => ⟨S1024, .f32⟩
  | 12 => ⟨S8192x1024, .f32⟩
  | 13 => ⟨S1x1024, .f32⟩
  | 14 => ⟨S8192x1024, .f32⟩
  | 15 => ⟨S8192x1024, .f32⟩
  | 16 => ⟨S8192x1024, .f32⟩
  | 17 => ⟨S1x1024, .f32⟩
  | 18 => ⟨S1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S1x1024, .f32⟩
  | 25 => ⟨S1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S1x1024, .f32⟩
  | 39 => ⟨S1024, .f32⟩
  | 40 => ⟨S8192x1024, .f32⟩
  | 41 => ⟨S1x1024, .f32⟩
  | 42 => ⟨S8192x1024, .f32⟩
  | 43 => ⟨S8192x1024, .f32⟩
  | 44 => ⟨S8192x1024, .f32⟩
  | 45 => ⟨S1x1024, .f32⟩
  | 46 => ⟨S1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S1x1024, .f32⟩
  | 53 => ⟨S1024, .f32⟩
  | 54 => ⟨S8192x1024, .f32⟩
  | 55 => ⟨S1x1024, .f32⟩
  | 56 => ⟨S8192x1024, .f32⟩
  | 57 => ⟨S8192x1024, .f32⟩
  | 58 => ⟨S8192x1024, .f32⟩
  | 59 => ⟨S1x1024, .f32⟩
  | 60 => ⟨S1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S1x1024, .f32⟩
  | 74 => ⟨S1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S1x1024, .f32⟩
  | 81 => ⟨S1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S1x1024, .f32⟩
  | 88 => ⟨S1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S1x1024, .f32⟩
  | 95 => ⟨S1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S1x1024, .f32⟩
  | 102 => ⟨S1024, .f32⟩
  | 103 => ⟨S8192x1024, .f32⟩
  | 104 => ⟨S1x1024, .f32⟩
  | 105 => ⟨S8192x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x23808, .f32⟩

abbrev hbmTy0_2 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S30x1024, .f32⟩
  | _ => ⟨S8192x23808, .f32⟩

abbrev hbmTy (i : Nat) : BufTy := match i / 128 with
  | 0 => hbmTy0_0 i
  | 1 => hbmTy0_1 i
  | 2 => hbmTy0_2 i
  | _ => ⟨S8192x23808, .f32⟩

abbrev bufTy : (tb : Table) → Fin (tcTables nBuf tb) → BufTy
  | .hbm, ⟨i, _⟩ => hbmTy i
  | _, _ => ⟨S8192x23808, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_2 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_cst_7 : Ref sig .tc := ⟨.hbm, 268, rfl⟩
abbrev main_v255 : Ref sig .tc := ⟨.hbm, 269, rfl⟩
abbrev main_v256 : Ref sig .tc := ⟨.hbm, 270, rfl⟩
abbrev main_cst_8 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_cst_9 : Ref sig .tc := ⟨.hbm, 277, rfl⟩
abbrev main_v262 : Ref sig .tc := ⟨.hbm, 278, rfl⟩
abbrev main_v263 : Ref sig .tc := ⟨.hbm, 279, rfl⟩
abbrev main_cst_10 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩

abbrev nD : Nat := 1
abbrev τ : Topo := Topo.v7x

variable {F : FTy → Type} [FloatOps F]
-- ==== Attn.lean ====
abbrev S8192x23808 : Shape := ⟨2, ![8192, 23808]⟩
abbrev S128 : Shape := ⟨1, ![128]⟩
abbrev S1x128 : Shape := ⟨2, ![1, 128]⟩
abbrev S8192x1024 : Shape := ⟨2, ![8192, 1024]⟩
abbrev S2x128x1024 : Shape := ⟨3, ![2, 128, 1024]⟩
abbrev S2x512x1024 : Shape := ⟨3, ![2, 512, 1024]⟩
abbrev S2x2048x1024 : Shape := ⟨3, ![2, 2048, 1024]⟩
abbrev S2048x128 : Shape := ⟨2, ![2048, 128]⟩
abbrev S2x128x128 : Shape := ⟨3, ![2, 128, 128]⟩
abbrev S2x512x128 : Shape := ⟨3, ![2, 512, 128]⟩
abbrev S2x2048x128 : Shape := ⟨3, ![2, 2048, 128]⟩
abbrev S1x2176x128 : Shape := ⟨3, ![1, 2176, 128]⟩
abbrev S4x640x128 : Shape := ⟨3, ![4, 640, 128]⟩
abbrev S16x256x128 : Shape := ⟨3, ![16, 256, 128]⟩
abbrev S128x256 : Shape := ⟨2, ![128, 256]⟩
abbrev S1x128x128 : Shape := ⟨3, ![1, 128, 128]⟩
abbrev S128x128 : Shape := ⟨2, ![128, 128]⟩
abbrev S128x1 : Shape := ⟨2, ![128, 1]⟩
abbrev S1x256x128 : Shape := ⟨3, ![1, 256, 128]⟩
abbrev S256x128 : Shape := ⟨2, ![256, 128]⟩
abbrev S4x128x128 : Shape := ⟨3, ![4, 128, 128]⟩
abbrev S16x128x128 : Shape := ⟨3, ![16, 128, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S2048 : Shape := ⟨1, ![2048]⟩
abbrev S2048x1 : Shape := ⟨2, ![2048, 1]⟩
abbrev S1x2048x128 : Shape := ⟨3, ![1, 2048, 128]⟩

abbrev nBuf : Space → Nat
  | .hbm => 9
  | .vmem => 42
  | .smem => 0
  | _ => 0

abbrev bufTy : (tb : Table) → Fin (tcTables nBuf tb) → BufTy
  | .hbm, ⟨0, _⟩ => ⟨S8192x23808, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x1024, .f32⟩
  | .hbm, ⟨6, _⟩ => ⟨S2x128x1024, .f32⟩
  | .hbm, ⟨7, _⟩ => ⟨S2x512x1024, .f32⟩
  | .hbm, ⟨8, _⟩ => ⟨S2x2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x128, .f32⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | .local _ .vmem, ⟨24, _⟩ => ⟨S2x128x128, .f32⟩
  | .local _ .vmem, ⟨25, _⟩ => ⟨S2x128x128, .f32⟩
  | .local _ .vmem, ⟨26, _⟩ => ⟨S2x512x128, .f32⟩
  | .local _ .vmem, ⟨27, _⟩ => ⟨S2x512x128, .f32⟩
  | .local _ .vmem, ⟨28, _⟩ => ⟨S2x2048x128, .f32⟩
  | .local _ .vmem, ⟨29, _⟩ => ⟨S2x2048x128, .f32⟩
  | .local _ .vmem, ⟨30, _⟩ => ⟨S1x2176x128, .bf16⟩
  | .local _ .vmem, ⟨31, _⟩ => ⟨S4x640x128, .bf16⟩
  | .local _ .vmem, ⟨32, _⟩ => ⟨S16x256x128, .bf16⟩
  | .local _ .vmem, ⟨33, _⟩ => ⟨S1x2176x128, .bf16⟩
  | .local _ .vmem, ⟨34, _⟩ => ⟨S4x640x128, .bf16⟩
  | .local _ .vmem, ⟨35, _⟩ => ⟨S16x256x128, .bf16⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | _, _ => ⟨S8192x23808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_scratch10 : Ref sig .tc := ⟨.vmem, 40, rfl⟩
abbrev cc0_scratch11 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

def k0_cond7 (i : grid0.Coords) : BitVec 1 :=
  let arg1 : BitVec 32 := BitVec.ofNat 32 (i 1).val
  let c3_i32 : BitVec 32 := 3#32
  let v3519 : BitVec 1 := Scalar.cmpi .eq arg1 c3_i32
  let v3520 : BitVec 32 := Scalar.extui v3519
  let c0_i32_1797 : BitVec 32 := 0#32
  let v3521 : BitVec 1 := Scalar.cmpi .ne v3520 c0_i32_1797
  v3521

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.addi c88_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== AttnRefIdeal.lean ====
abbrev S8192x23808 : Shape := ⟨2, ![8192, 23808]⟩
abbrev S128 : Shape := ⟨1, ![128]⟩
abbrev S8192x3072 : Shape := ⟨2, ![8192, 3072]⟩
abbrev S8192x3x8x128 : Shape := ⟨4, ![8192, 3, 8, 128]⟩
abbrev S_ : Shape := ⟨0, ![]⟩
abbrev S8192x3x8 : Shape := ⟨3, ![8192, 3, 8]⟩
abbrev S8192x3x8x1 : Shape := ⟨4, ![8192, 3, 8, 1]⟩
abbrev S1x1x1x128 : Shape := ⟨4, ![1, 1, 1, 128]⟩
abbrev S128x1x8x128 : Shape := ⟨4, ![128, 1, 8, 128]⟩
abbrev S128x8x128 : Shape := ⟨3, ![128, 8, 128]⟩
abbrev S1x128x8x128 : Shape := ⟨4, ![1, 128, 8, 128]⟩
abbrev S2x128x8x128 : Shape := ⟨4, ![2, 128, 8, 128]⟩
abbrev S2x128x1024 : Shape := ⟨3, ![2, 128, 1024]⟩
abbrev S512x1x8x128 : Shape := ⟨4, ![512, 1, 8, 128]⟩
abbrev S512x8x128 : Shape := ⟨3, ![512, 8, 128]⟩
abbrev S1x512x8x128 : Shape := ⟨4, ![1, 512, 8, 128]⟩
abbrev S2x512x8x128 : Shape := ⟨4, ![2, 512, 8, 128]⟩
abbrev S2x512x1024 : Shape := ⟨3, ![2, 512, 1024]⟩
abbrev S2048x1x8x128 : Shape := ⟨4, ![2048, 1, 8, 128]⟩
abbrev S2048x8x128 : Shape := ⟨3, ![2048, 8, 128]⟩
abbrev S1x2048x8x128 : Shape := ⟨4, ![1, 2048, 8, 128]⟩
abbrev S2x2048x8x128 : Shape := ⟨4, ![2, 2048, 8, 128]⟩
abbrev S2x2048x1024 : Shape := ⟨3, ![2, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x23808, .f32⟩
  | .hbm, ⟨1, _⟩ => ⟨S128, .f32⟩
  | .hbm, ⟨2, _⟩ => ⟨S128, .f32⟩
  | .hbm, ⟨3, _⟩ => ⟨S8192x3072, .f32⟩
  | .hbm, ⟨4, _⟩ => ⟨S8192x3x8x128, .f32⟩
  | .hbm, ⟨5, _⟩ => ⟨S8192x3x8x128, .f32⟩
  | .hbm, ⟨6, _⟩ => ⟨S_, .f32⟩
  | .hbm, ⟨7, _⟩ => ⟨S8192x3x8, .f32⟩
  | .hbm, ⟨8, _⟩ => ⟨S8192x3x8x1, .f32⟩
  | .hbm, ⟨9, _⟩ => ⟨S_, .f32⟩
  | .hbm, ⟨10, _⟩ => ⟨S8192x3x8x1, .f32⟩
  | .hbm, ⟨11, _⟩ => ⟨S8192x3x8x1, .f32⟩
  | .hbm, ⟨12, _⟩ => ⟨S_, .f32⟩
  | .hbm, ⟨13, _⟩ => ⟨S8192x3x8x1, .f32⟩
  | .hbm, ⟨14, _⟩ => ⟨S8192x3x8x1, .f32⟩
  | .hbm, ⟨15, _⟩ => ⟨S8192x3x8x1, .f32⟩
  | .hbm, ⟨16, _⟩ => ⟨S8192x3x8x128, .f32⟩
  | .hbm, ⟨17, _⟩ => ⟨S8192x3x8x128, .f32⟩
  | .hbm, ⟨18, _⟩ => ⟨S1x1x1x128, .f32⟩
  | .hbm, ⟨19, _⟩ => ⟨S8192x3x8x128, .f32⟩
  | .hbm, ⟨20, _⟩ => ⟨S8192x3x8x128, .f32⟩
  | .hbm, ⟨21, _⟩ => ⟨S8192x3072, .f32⟩
  | .hbm, ⟨22, _⟩ => ⟨S8192x3x8x128, .f32⟩
  | .hbm, ⟨23, _⟩ => ⟨S128x1x8x128, .f32⟩
  | .hbm, ⟨24, _⟩ => ⟨S128x8x128, .f32⟩
  | .hbm, ⟨25, _⟩ => ⟨S128x1x8x128, .f32⟩
  | .hbm, ⟨26, _⟩ => ⟨S128x8x128, .f32⟩
  | .hbm, ⟨27, _⟩ => ⟨S1x128x8x128, .f32⟩
  | .hbm, ⟨28, _⟩ => ⟨S1x128x8x128, .f32⟩
  | .hbm, ⟨29, _⟩ => ⟨S2x128x8x128, .f32⟩
  | .hbm, ⟨30, _⟩ => ⟨S2x128x1024, .f32⟩
  | .hbm, ⟨31, _⟩ => ⟨S512x1x8x128, .f32⟩
  | .hbm, ⟨32, _⟩ => ⟨S512x8x128, .f32⟩
  | .hbm, ⟨33, _⟩ => ⟨S512x1x8x128, .f32⟩
  | .hbm, ⟨34, _⟩ => ⟨S512x8x128, .f32⟩
  | .hbm, ⟨35, _⟩ => ⟨S1x512x8x128, .f32⟩
  | .hbm, ⟨36, _⟩ => ⟨S1x512x8x128, .f32⟩
  | .hbm, ⟨37, _⟩ => ⟨S2x512x8x128, .f32⟩
  | .hbm, ⟨38, _⟩ => ⟨S2x512x1024, .f32⟩
  | .hbm, ⟨39, _⟩ => ⟨S2048x1x8x128, .f32⟩
  | .hbm, ⟨40, _⟩ => ⟨S2048x8x128, .f32⟩
  | .hbm, ⟨41, _⟩ => ⟨S2048x1x8x128, .f32⟩
  | .hbm, ⟨42, _⟩ => ⟨S2048x8x128, .f32⟩
  | .hbm, ⟨43, _⟩ => ⟨S1x2048x8x128, .f32⟩
  | .hbm, ⟨44, _⟩ => ⟨S1x2048x8x128, .f32⟩
  | .hbm, ⟨45, _⟩ => ⟨S2x2048x8x128, .f32⟩
  | .hbm, ⟨46, _⟩ => ⟨S2x2048x1024, .f32⟩
  | _, _ => ⟨S8192x23808, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Proof.ConvValue.lean ====
/-
  The rows that the convolution's kernel keeps for the sampling step: the last 30 gated rows of the prompt.
-/
module

public import proofs.«01_k».proof.Proof.Gen.ConvIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

variable (m : (ℓ : Loc nD τ sig) → Buf (Elt Ideal) ℓ)

/-- The block of each window that the kept rows read, at a grid point. -/
theorem idx : ∀ t : Fin cfg0.N, win0_0.index t = ![t.val, 0] ∧ win0_1.index t = ![t.val, 1] ∧ win0_8.index t = ![0, 0] :=
  (by decide +kernel : ∀ t : Fin grid0.N, _)

variable (c : Dev nD)

/-- The column of the gate for column `l` of the values. -/
def glu (l : Fin 1024) : Fin 23808 := ⟨1024 + l.val, by omega⟩

/-- The column of a value. -/
def val (l : Fin 1024) : Fin 23808 := ⟨l.val, by omega⟩

/-- Row `r` of block `t`, as a row of the array. -/
def row (t : Fin cfg0.N) (r : Fin 256) : Fin 8192 := ⟨256 * t.val + r.val, by have : t.val < 32 := t.isLt; omega⟩

/-- A row of the values, gated: what the branch convolves. -/
def gated (x : FVec Ideal S8192x23808 .f32) (i : Fin 8192) (l : Fin 1024) : Ideal .f32 :=
  FloatOps.mulf (x (ix2 i (val l))) (FloatOps.logistic (x (ix2 i (glu l))))

/-- The kept rows of an input array. -/
def kept (x : FVec Ideal S8192x23808 .f32) : FVec Ideal S30x1024 .f32 := fun y =>
  gated x ⟨8162 + (y 0).val, by have : (y 0).val < 30 := (y 0).isLt; omega⟩ (y 1)

theorem read0 (t : Fin cfg0.N) (r : Fin 256) (l : Fin 1024) :
    X0_0 m c t (ix2 r l) = m ((c : Thread nD τ).loc main_arg0) (ix2 (row t r) (val l)) := by
  unfold X0_0 Pipeline.Window.fill
  rw [dif_pos (moved0_0 t _)]
  blk_ext [iblk, V, idx t]
  all_goals (simp only [row, val] <;> omega)

theorem read1 (t : Fin cfg0.N) (r : Fin 256) (l : Fin 1024) :
    X0_1 m c t (ix2 r l) = m ((c : Thread nD τ).loc main_arg0) (ix2 (row t r) (glu l)) := by
  unfold X0_1 Pipeline.Window.fill
  rw [dif_pos (moved0_1 t _)]
  blk_ext [iblk, V, idx t]
  all_goals (simp only [row, glu] <;> omega)

theorem last_flush : ∀ t : Fin cfg0.N, (cfg0.win 8).flush t = true → t.val = 31 :=
  (by decide +kernel : ∀ t : Fin grid0.N, _)

/-- The kept rows lie in the last 64 rows stored: reading them back reads those rows from their row 34 on. -/
theorem within_last {sp : Space} {κ : Kind} (v : View sig κ sp S288x1024 .f32) (w : Vec Ideal S64x1024 .f32)
    (L : List (View.Piece (Elt Ideal) S288x1024 .f32)) (inb) (inb') (y : S30x1024.Idx) :
    v.readCov (⟨Rect.unit (s := S288x1024) ![224, 0] S64x1024.size inb, w⟩ :: L)
        (Rect.unit (s := S288x1024) ![258, 0] ![30, 1024] inb').toLoadRect y
      = w (ix2 ⟨34 + (y 0).val, by have : (y 0).val < 30 := (y 0).isLt; omega⟩ (y 1)) := by
  have e : (Rect.unit (s := S288x1024) ![258, 0] ![30, 1024] inb').toLoadRect.idx y
      = (Rect.unit (s := S288x1024) ![224, 0] S64x1024.size inb).emb
          (ix2 ⟨34 + (y 0).val, by have : (y 0).val < 30 := (y 0).isLt; omega⟩ (y 1)) := by
    funext a
    apply Fin.ext
    match a with
    | ⟨0, _⟩ => show 258 + 1 * (y 0).val = 224 + 1 * (34 + (y 0).val); omega
    | ⟨1, _⟩ => rfl
  rw [View.readCov_eq_canon']
  show View.canon _ ((Rect.unit (s := S288x1024) ![258, 0] ![30, 1024] inb').toLoadRect.idx y) = _
  rw [e]
  exact View.canon_cons_emb (Rect.unit (s := S288x1024) ![224, 0] S64x1024.size inb) w L _

/-- The rows kept at the last point, of the point's blocks. -/
theorem tail_C (t : Fin cfg0.N) (h0 : ¬t.val % 32 = 0) (h1 : 1 ≤ t.val) (h2 : t.val % 32 = 31) (y : S30x1024.Idx) :
    (outsAt0 m c t.val t.isLt).2.1 y =
      gated (m ((c : Thread nD τ).loc main_arg0)) (row t ⟨226 + (y 0).val, by have : (y 0).val < 30 := (y 0).isLt; omega⟩) (y 1) := by
  rw [outsAt0_C m c t h0 h1 h2]
  dsimp only
  frame_out
  refine (within_last _ _ _ _ _ y).trans ?_
  obtain ⟨a, b, rfl⟩ : ∃ a b, y = ix2 a b := ⟨y 0, y 1, by funext q; match q with | ⟨0, _⟩ => rfl | ⟨1, _⟩ => rfl⟩
  pointwise [k0_pay6]
  rw [read0, read1]
  have hr : ∀ h, row t ⟨192 + (34 + a.val), h⟩ = row t ⟨226 + a.val, by omega⟩ := fun h =>
    Fin.ext (by show 256 * t.val + (192 + (34 + a.val)) = 256 * t.val + (226 + a.val); omega)
  rw [hr]
  rfl

/-- The array of kept rows after the run. -/
theorem final_tail : (dats m 0 c).arrAt 8 cfg0.N = kept (m ((c : Thread nD τ).loc main_arg0)) := by
  refine (dats m 0 c).arrAt_eq_of_covers 8 _ (by decide +kernel) fun t hf y => ?_
  have ht : t.val = 31 := last_flush t hf
  rw [after0_8]
  refine (tail_C m c t (by omega) (by omega) (by omega) y).trans ?_
  obtain ⟨a, b, rfl⟩ : ∃ a b, y = ix2 a b := ⟨y 0, y 1, by funext q; match q with | ⟨0, _⟩ => rfl | ⟨1, _⟩ => rfl⟩
  unfold kept
  have e0 : ((((cfg0.win 8).blk t).view.emb (ix2 a b)) 0).val = a.val := by
    show (win0_8.index t 0) * _ + 1 * a.val = a.val
    rw [(idx t).2.2]
    show 0 * _ + 1 * a.val = a.val
    omega
  have e1 : (((cfg0.win 8).blk t).view.emb (ix2 a b)) 1 = b := by
    apply Fin.ext
    show (win0_8.index t 1) * _ + 1 * b.val = b.val
    rw [(idx t).2.2]
    show 0 * _ + 1 * b.val = b.val
    omega
  rw [e1]
  refine congrArg (fun i => gated (m ((c : Thread nD τ).loc main_arg0)) i b) (Fin.ext ?_)
  show 256 * t.val + (226 + a.val) = 8162 + _
  rw [e0, ht]
  omega

end Cert.ConvIdeal.Value
-- ==== Proof.ConvRows.lean ====
/-
  The rows of the convolution branch: a depthwise convolution over 31 rows, its normalisation and its gate.

  A grid point stores 256 gated rows under the 32 rows that the point before left, convolves them in 16 tiles of 64 rows and
  256 lanes, and normalises and gates the convolved rows 64 at a time.
-/
module

public import proofs.«01_k».proof.Proof.ConvValue
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-- A convolved entry: the bias and the 31 weighed rows under and at its own, of rows kept two below. -/
def convolved (E : S288x1024.Idx → EReal) (w : S31x1024.Idx → EReal) (b : S1x1024.Idx → EReal) (r : Fin 256) (l : Fin 1024) : EReal :=
  b (ix2 0 l) + ∑ k : Fin 31, w (ix2 k l) * E (ix2 ⟨2 + r.val + k.val, by omega⟩ l)

/-- The convolved rows of one grid point. -/
def convolvedRows (E : S288x1024.Idx → EReal) (w : S31x1024.Idx → EReal) (b : S1x1024.Idx → EReal) : Vec Ideal S256x1024 .f32 :=
  fun y => convolved E w b (y 0) (y 1)

/-- The mean of a row. -/
def mean (z : Fin 1024 → EReal) : EReal := Ideal.div (∑ l : Fin 1024, z l) (Ideal.ofBits .f32 0x44800000#32)

/-- A row normalised, scaled and shifted, at one lane. -/
def normal (z : Fin 1024 → EReal) (lg lb : EReal) (l : Fin 1024) : EReal :=
  (z l - mean z) * Ideal.rsqrt (mean (fun q => (z q - mean z) * (z q - mean z)) + Ideal.ofBits .f32 0x358637BD#32) * lg + lb

/-- The branch's entry: the normalised row times its logistic, times the gate times its own. -/
def branch (z : Fin 1024 → EReal) (lg lb gate : EReal) (l : Fin 1024) : EReal :=
  normal z lg lb l * Ideal.logistic (normal z lg lb l) * (gate * Ideal.logistic gate)

/-- The four ways in which the kernel writes the branch's rows are the same. -/
theorem branch0 (Y g : Vec Ideal S64x1024 .f32) (lg lb : Vec Ideal S1x1024 .f32) (a : Fin 64) (l : Fin 1024) :
    k0_pay100 (k0_pay98 Y) (k0_pay99 Y) lg lb g (ix2 a l)
      = branch (fun q => Y (ix2 a q)) (lg (ix2 0 l)) (lb (ix2 0 l)) (g (ix2 a l)) l := by
  pointwise [k0_pay100, k0_pay99, k0_pay98]
  rfl
theorem branch1 (Y g : Vec Ideal S64x1024 .f32) (lg lb : Vec Ideal S1x1024 .f32) (a : Fin 64) (l : Fin 1024) :
    k0_pay102 (k0_pay101 Y) lg lb g (ix2 a l)
      = branch (fun q => Y (ix2 a q)) (lg (ix2 0 l)) (lb (ix2 0 l)) (g (ix2 a l)) l := by
  pointwise [k0_pay102, k0_pay101]
  rfl
theorem branch2 (Y g : Vec Ideal S64x1024 .f32) (lg lb : Vec Ideal S1x1024 .f32) (a : Fin 64) (l : Fin 1024) :
    k0_pay104 (k0_pay103 Y lg lb) g (ix2 a l)
      = branch (fun q => Y (ix2 a q)) (lg (ix2 0 l)) (lb (ix2 0 l)) (g (ix2 a l)) l := by
  pointwise [k0_pay104, k0_pay103]
  rfl
theorem branch3 (Y g : Vec Ideal S64x1024 .f32) (lg lb : Vec Ideal S1x1024 .f32) (a : Fin 64) (l : Fin 1024) :
    k0_pay105 Y lg lb g (ix2 a l)
      = branch (fun q => Y (ix2 a q)) (lg (ix2 0 l)) (lb (ix2 0 l)) (g (ix2 a l)) l := by
  pointwise [k0_pay105]
  rfl

/-- A first term and 31 more, added one by one. -/
def sum31 (b : EReal) (f : Fin 31 → EReal) : EReal := b + f 0 + f 1 + f 2 + f 3 + f 4 + f 5 + f 6 + f 7 + f 8 + f 9
    + f 10 + f 11 + f 12 + f 13 + f 14 + f 15 + f 16 + f 17 + f 18 + f 19 + f 20 + f 21 + f 22 + f 23 + f 24 + f 25 + f 26 + f 27
    + f 28 + f 29 + f 30

theorem one_by_one (b : EReal) (f : Fin 31 → EReal) : b + ∑ k : Fin 31, f k = sum31 b f := by
  simp only [Fin.sum_univ_castSucc, Fin.sum_univ_zero, zero_add, ← add_assoc]
  rfl

/-- A cell of a tile of the convolved rows, as a cell of these. -/
theorem tile_emb (o p h n : ℕ) (inb) (a : Fin h) (l : Fin n) (h0 : o + h ≤ 256) (h1 : p + n ≤ 1024) :
    (Rect.unit (s := S256x1024) ![o, p] ![h, n] inb).emb (ix2 a l) = ix2 ⟨o + a.val, by omega⟩ ⟨p + l.val, by omega⟩ := by
  funext q
  apply Fin.ext
  match q with
  | ⟨0, _⟩ => show o + 1 * a.val = o + a.val; omega
  | ⟨1, _⟩ => show p + 1 * l.val = p + l.val; omega

/-- A convolved entry with its rows counted from the tile's first. -/
theorem convolved_tile (E : S288x1024.Idx → EReal) (w : S31x1024.Idx → EReal) (b : S1x1024.Idx → EReal) (o : ℕ) (a : Fin 64) (l : Fin 1024)
    (h0 : o + 64 ≤ 256) : convolved E w b ⟨o + a.val, by omega⟩ l
      = b (ix2 0 l) + ∑ k : Fin 31, w (ix2 k l) * E (ix2 ⟨2 + o + k.val + a.val, by omega⟩ l) :=
  congrArg (b (ix2 0 l) + ·) (Finset.sum_congr rfl fun k _ => congrArg (fun i => w (ix2 k l) * E (ix2 i l)) (Fin.ext (by
    show 2 + (o + a.val) + k.val = 2 + o + k.val + a.val; omega)))

/-- The rows that a grid point stores, from the rows it convolves. -/
def branchRows (E : S288x1024.Idx → EReal) (w : S31x1024.Idx → EReal) (b lg lb : S1x1024.Idx → EReal) (g : S256x1024.Idx → EReal) :
    Vec Ideal S256x1024 .f32 :=
  fun y => branch (fun l => convolved E w b (y 0) l) (lg (ix2 0 (y 1))) (lb (ix2 0 (y 1))) (g y) (y 1)

/-- The entry of the convolved rows at a cell of a tile, as the kernel adds it up. -/
theorem tile (E : S288x1024.Idx → EReal) (w : S31x1024.Idx → EReal) (b : S1x1024.Idx → EReal) (o p : ℕ) (inb) (a : Fin 64) (l : Fin 256)
    (h0 : o + 64 ≤ 256) (h1 : p + 256 ≤ 1024) :
    convolvedRows E w b ((Rect.unit (s := S256x1024) ![o, p] S64x256.size inb).emb (ix2 a l))
      = sum31 (b (ix2 0 ⟨p + l.val, by omega⟩)) (fun k : Fin 31 => w (ix2 k ⟨p + l.val, by omega⟩)
          * E (ix2 ⟨2 + o + k.val + a.val, by omega⟩ ⟨p + l.val, by omega⟩)) :=
  (congrArg (convolvedRows E w b) (tile_emb o p 64 256 inb a l (by omega) (by omega))).trans
    ((convolved_tile E w b o a ⟨p + l.val, by omega⟩ h0).trans (one_by_one _ _))

/-- The same for the branch's rows, at a cell of 64 whole rows. -/
theorem strip (E : S288x1024.Idx → EReal) (w : S31x1024.Idx → EReal) (b lg lb : S1x1024.Idx → EReal) (g : S256x1024.Idx → EReal)
    (o : ℕ) (inb) (a : Fin 64) (l : Fin 1024) (h0 : o + 64 ≤ 256) :
    branchRows E w b lg lb g ((Rect.unit (s := S256x1024) ![o, 0] S64x1024.size inb).emb (ix2 a l))
      = branch (fun q => convolvedRows E w b (ix2 ⟨o + a.val, by omega⟩ q)) (lg (ix2 0 l)) (lb (ix2 0 l)) (g (ix2 ⟨o + a.val, by omega⟩ l)) l := by
  have e : (⟨0 + l.val, by omega⟩ : Fin 1024) = l := Fin.ext (Nat.zero_add _)
  refine (congrArg (branchRows E w b lg lb g) (tile_emb o 0 64 1024 inb a l (by omega) (by omega))).trans ?_
  rw [e]
  rfl

variable (m : (ℓ : Loc nD τ sig) → Buf (Elt Ideal) ℓ)
variable (c : Dev nD)

/-- The rows that a grid point convolves, as it stores them: the rows kept from the point before, and its own. -/
abbrev stored (x0 x1 : Vec Ideal S256x1024 .f32) (halo : Vec Ideal S32x1024 .f32) : List (View.Piece (Elt Ideal) S288x1024 .f32) :=
  [⟨Rect.unit (s := S288x1024) ![224, 0] S64x1024.size inb_S288x1024_S64x1024_224_0,
      k0_pay6 (View.ld x0 (Rect.unit (s := S256x1024) ![192, 0] S64x1024.size inb_S256x1024_S64x1024_192_0))
        (View.ld x1 (Rect.unit (s := S256x1024) ![192, 0] S64x1024.size inb_S256x1024_S64x1024_192_0))⟩,
   ⟨Rect.unit (s := S288x1024) ![160, 0] S64x1024.size inb_S288x1024_S64x1024_160_0,
      k0_pay5 (View.ld x0 (Rect.unit (s := S256x1024) ![128, 0] S64x1024.size inb_S256x1024_S64x1024_128_0))
        (View.ld x1 (Rect.unit (s := S256x1024) ![128, 0] S64x1024.size inb_S256x1024_S64x1024_128_0))⟩,
   ⟨Rect.unit (s := S288x1024) ![96, 0] S64x1024.size inb_S288x1024_S64x1024_96_0,
      k0_pay4 (View.ld x0 (Rect.unit (s := S256x1024) ![64, 0] S64x1024.size inb_S256x1024_S64x1024_64_0))
        (View.ld x1 (Rect.unit (s := S256x1024) ![64, 0] S64x1024.size inb_S256x1024_S64x1024_64_0))⟩,
   ⟨Rect.unit (s := S288x1024) ![32, 0] S64x1024.size inb_S288x1024_S64x1024_32_0,
      k0_pay3 (View.ld x0 (Rect.unit (s := S256x1024) ![0, 0] S64x1024.size inb_S256x1024_S64x1024_0_0))
        (View.ld x1 (Rect.unit (s := S256x1024) ![0, 0] S64x1024.size inb_S256x1024_S64x1024_0_0))⟩,
   ⟨Rect.unit (s := S288x1024) ![0, 0] S32x1024.size inb_S288x1024_S32x1024_0_0, halo⟩]

set_option maxHeartbeats 4000000 in
/-- A grid point's rows are the branch's rows of what it leaves in the scratch array. -/
theorem rows_of (t : Fin cfg0.N) (y : S256x1024.Idx) :
    (outsAt0 m c t.val t.isLt).1 y = branchRows (outsAt0 m c t.val t.isLt).2.2 (iblk m c 3 t) (iblk m c 4 t) (iblk m c 5 t)
      (iblk m c 6 t) (X0_2 m c t) y := by
  have ht : t.val < 32 := t.isLt
  by_cases h0 : t.val % 32 = 0
  on_goal 2 => by_cases h2 : t.val % 32 = 31
  on_goal 1 => rw [outsAt0_A m c t h0 (by omega) (by omega)]
  on_goal 2 => rw [outsAt0_C m c t h0 (by omega) h2]
  on_goal 3 => rw [outsAt0_B m c t h0 (by omega) h2]
  all_goals
    dsimp only
    frame_out
    simp only [View.readCov_eq_canon']
    generalize hE : View.canon (stored (X0_0 m c t) (X0_1 m c t) _) = E
    generalize (iblk m c 3 t : Vec Ideal S31x1024 .f32) = w
    generalize (iblk m c 4 t : Vec Ideal S1x1024 .f32) = bias
    generalize (iblk m c 5 t : Vec Ideal S1x1024 .f32) = lg
    generalize (iblk m c 6 t : Vec Ideal S1x1024 .f32) = lb
    generalize (X0_2 m c t : Vec Ideal S256x1024 .f32) = gate
    clear hE
    refine View.canon_apply_of_pieces (branchRows E w bias lg lb gate) _ (View.PiecesOf.mem ?_) y
      (View.cover_of_tiledL (s := S256x1024) _ S64x1024.size (by sl_kernel_rfl) y)
    generalize hY : View.canon (Val := Elt Ideal) (s := S256x1024) (e := .f32) _ = Y
    have e : Y = convolvedRows E w bias := by
      rw [← hY]
      funext y
      refine View.canon_apply_of_pieces (convolvedRows E w bias) _ (View.PiecesOf.mem ?_) y
        (View.cover_of_tiledL (s := S256x1024) _ S64x256.size (by sl_kernel_rfl) y)
      clear hY
      refine ⟨?_, ?_, ?_, ?_, ?_, ?_, ?_, ?_, ?_, ?_, ?_, ?_, ?_, ?_, ?_, ?_, trivial⟩
      all_goals intro x
      all_goals obtain ⟨a, b, rfl⟩ : ∃ a b, x = ix2 a b := ⟨x 0, x 1, by funext q; match q with | ⟨0, _⟩ => rfl | ⟨1, _⟩ => rfl⟩
      · refine Eq.trans ?_ (tile E w bias 192 768 inb_S256x1024_S64x256_192_768 a b (by omega) (by omega)).symm
        pointwise [sum31, k0_pay97, k0_pay96, k0_pay95, k0_pay94, k0_pay93, k0_pay92]
      · refine Eq.trans ?_ (tile E w bias 128 768 inb_S256x1024_S64x256_128_768 a b (by omega) (by omega)).symm
        pointwise [sum31, k0_pay91, k0_pay90, k0_pay89, k0_pay88, k0_pay87]
      · refine Eq.trans ?_ (tile E w bias 64 768 inb_S256x1024_S64x256_64_768 a b (by omega) (by omega)).symm
        pointwise [sum31, k0_pay86, k0_pay85, k0_pay84, k0_pay83, k0_pay82, k0_pay81]
      · refine Eq.trans ?_ (tile E w bias 0 768 inb_S256x1024_S64x256_0_768 a b (by omega) (by omega)).symm
        pointwise [sum31, k0_pay80, k0_pay79, k0_pay78, k0_pay77, k0_pay76, k0_pay75]
      · refine Eq.trans ?_ (tile E w bias 192 512 inb_S256x1024_S64x256_192_512 a b (by omega) (by omega)).symm
        pointwise [sum31, k0_pay74, k0_pay73, k0_pay72, k0_pay71, k0_pay70, k0_pay69]
      · refine Eq.trans ?_ (tile E w bias 128 512 inb_S256x1024_S64x256_128_512 a b (by omega) (by omega)).symm
        pointwise [sum31, k0_pay68, k0_pay67, k0_pay66, k0_pay65, k0_pay64, k0_pay63]
      · refine Eq.trans ?_ (tile E w bias 64 512 inb_S256x1024_S64x256_64_512 a b (by omega) (by omega)).symm
        pointwise [sum31, k0_pay62, k0_pay61, k0_pay60, k0_pay59, k0_pay58, k0_pay57]
      · refine Eq.trans ?_ (tile E w bias 0 512 inb_S256x1024_S64x256_0_512 a b (by omega) (by omega)).symm
        pointwise [sum31, k0_pay56, k0_pay55, k0_pay54, k0_pay53, k0_pay52]
      · refine Eq.trans ?_ (tile E w bias 192 256 inb_S256x1024_S64x256_192_256 a b (by omega) (by omega)).symm
        pointwise [sum31, k0_pay51, k0_pay50, k0_pay49, k0_pay48, k0_pay47]
      · refine Eq.trans ?_ (tile E w bias 128 256 inb_S256x1024_S64x256_128_256 a b (by omega) (by omega)).symm
        pointwise [sum31, k0_pay46, k0_pay45, k0_pay44, k0_pay43, k0_pay42, k0_pay41]
      · refine Eq.trans ?_ (tile E w bias 64 256 inb_S256x1024_S64x256_64_256 a b (by omega) (by omega)).symm
        pointwise [sum31, k0_pay40, k0_pay39, k0_pay38, k0_pay37, k0_pay36, k0_pay35]
      · refine Eq.trans ?_ (tile E w bias 0 256 inb_S256x1024_S64x256_0_256 a b (by omega) (by omega)).symm
        pointwise [sum31, k0_pay34, k0_pay33, k0_pay32, k0_pay31, k0_pay30, k0_pay29]
      · refine Eq.trans ?_ (tile E w bias 192 0 inb_S256x1024_S64x256_192_0 a b (by omega) (by omega)).symm
        pointwise [sum31, k0_pay28, k0_pay27, k0_pay26, k0_pay25, k0_pay24, k0_pay23]
      · refine Eq.trans ?_ (tile E w bias 128 0 inb_S256x1024_S64x256_128_0 a b (by omega) (by omega)).symm
        pointwise [sum31, k0_pay22, k0_pay21, k0_pay20, k0_pay19, k0_pay18, k0_pay17]
      · refine Eq.trans ?_ (tile E w bias 64 0 inb_S256x1024_S64x256_64_0 a b (by omega) (by omega)).symm
        pointwise [sum31, k0_pay16, k0_pay15, k0_pay14, k0_pay13, k0_pay12]
      · refine Eq.trans ?_ (tile E w bias 0 0 inb_S256x1024_S64x256_0_0 a b (by omega) (by omega)).symm
        pointwise [sum31, k0_pay11, k0_pay10, k0_pay9, k0_pay8, k0_pay7]
    clear hY
    subst e
    refine ⟨fun x => ?_, fun x => ?_, fun x => ?_, fun x => ?_, trivial⟩
    all_goals obtain ⟨a, b, rfl⟩ : ∃ a b, x = ix2 a b := ⟨x 0, x 1, by funext q; match q with | ⟨0, _⟩ => rfl | ⟨1, _⟩ => rfl⟩
    · refine (branch3 _ _ _ _ a b).trans (Eq.trans ?_ (strip E w bias lg lb gate 192 inb_S256x1024_S64x1024_192_0 a b (by omega)).symm)
      pointwise [convolvedRows]
    · refine (branch2 _ _ _ _ a b).trans (Eq.trans ?_ (strip E w bias lg lb gate 128 inb_S256x1024_S64x1024_128_0 a b (by omega)).symm)
      pointwise [convolvedRows]
    · refine (branch1 _ _ _ _ a b).trans (Eq.trans ?_ (strip E w bias lg lb gate 64 inb_S256x1024_S64x1024_64_0 a b (by omega)).symm)
      pointwise [convolvedRows]
    · refine (branch0 _ _ _ _ a b).trans (Eq.trans ?_ (strip E w bias lg lb gate 0 inb_S256x1024_S64x1024_0_0 a b (by omega)).symm)
      pointwise [convolvedRows]

end Cert.ConvIdeal.Value
-- ==== Proof.ConvFinal.lean ====
/-
  What the convolution's kernel leaves: its scratch array holds gated rows of the whole input, so the rows it writes are the
  branch's rows of the whole input.
-/
module

public import proofs.«01_k».proof.Proof.ConvRows
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

variable (m : (ℓ : Loc nD τ sig) → Buf (Elt Ideal) ℓ)
variable (c : Dev nD)

/-- A cell of whole rows of the stored rows. -/
theorem stored_emb (o h : ℕ) (inb) (a : Fin h) (l : Fin 1024) (h0 : o + h ≤ 288) :
    (Rect.unit (s := S288x1024) ![o, 0] ![h, 1024] inb).emb (ix2 a l) = ix2 ⟨o + a.val, by omega⟩ l := by
  funext q
  apply Fin.ext
  match q with
  | ⟨0, _⟩ => show o + 1 * a.val = o + a.val; omega
  | ⟨1, _⟩ => show 0 + 1 * l.val = l.val; omega

/-- The stored rows as one array: the rows kept from the point before, then the point's gated rows. -/
def extended (x0 x1 : Vec Ideal S256x1024 .f32) (halo : Vec Ideal S32x1024 .f32) (r : Fin 288) (l : Fin 1024) : Ideal .f32 :=
  if h : r.val < 32 then halo (ix2 ⟨r.val, h⟩ l)
  else FloatOps.mulf (x0 (ix2 ⟨r.val - 32, by omega⟩ l)) (FloatOps.logistic (x1 (ix2 ⟨r.val - 32, by omega⟩ l)))

theorem extended_above (x0 x1 : Vec Ideal S256x1024 .f32) (halo : Vec Ideal S32x1024 .f32) (o : ℕ) (a : Fin 64) (l : Fin 1024)
    (h0 : o + 64 ≤ 256) (hr) : extended x0 x1 halo ⟨32 + o + a.val, hr⟩ l
      = FloatOps.mulf (x0 (ix2 ⟨o + a.val, by omega⟩ l)) (FloatOps.logistic (x1 (ix2 ⟨o + a.val, by omega⟩ l))) := by
  have e : (⟨32 + o + a.val - 32, by omega⟩ : Fin 256) = ⟨o + a.val, by omega⟩ := Fin.ext (by show 32 + o + a.val - 32 = o + a.val; omega)
  refine (dif_neg (show ¬ 32 + o + a.val < 32 by omega)).trans ?_
  rw [e]

def extendedRows (x0 x1 : Vec Ideal S256x1024 .f32) (halo : Vec Ideal S32x1024 .f32) : Vec Ideal S288x1024 .f32 :=
  fun y => extended x0 x1 halo (y 0) (y 1)

/-- The stored pieces are these rows. -/
theorem stored_at (x0 x1 : Vec Ideal S256x1024 .f32) (halo : Vec Ideal S32x1024 .f32) (r : Fin 288) (l : Fin 1024) :
    View.canon (stored x0 x1 halo) (ix2 r l) = extended x0 x1 halo r l := by
  refine View.canon_apply_of_pieces (extendedRows x0 x1 halo) _ (View.PiecesOf.mem ?_) (ix2 r l)
    (View.cover_of_tiledBy (s := S288x1024) _ ![32, 1024] (by sl_kernel_rfl) (ix2 r l))
  refine ⟨fun x => ?_, fun x => ?_, fun x => ?_, fun x => ?_, fun x => ?_, trivial⟩
  all_goals obtain ⟨a, b, rfl⟩ : ∃ a b, x = ix2 a b := ⟨x 0, x 1, by funext q; match q with | ⟨0, _⟩ => rfl | ⟨1, _⟩ => rfl⟩
  · refine Eq.trans ?_ (congrArg (extendedRows x0 x1 halo)
      (stored_emb 224 64 inb_S288x1024_S64x1024_224_0 a b (by omega))).symm
    refine Eq.trans ?_ (extended_above x0 x1 halo 192 a b (by omega) _).symm
    pointwise [k0_pay6]
  · refine Eq.trans ?_ (congrArg (extendedRows x0 x1 halo)
      (stored_emb 160 64 inb_S288x1024_S64x1024_160_0 a b (by omega))).symm
    refine Eq.trans ?_ (extended_above x0 x1 halo 128 a b (by omega) _).symm
    pointwise [k0_pay5]
  · refine Eq.trans ?_ (congrArg (extendedRows x0 x1 halo)
      (stored_emb 96 64 inb_S288x1024_S64x1024_96_0 a b (by omega))).symm
    refine Eq.trans ?_ (extended_above x0 x1 halo 64 a b (by omega) _).symm
    pointwise [k0_pay4]
  · refine Eq.trans ?_ (congrArg (extendedRows x0 x1 halo)
      (stored_emb 32 64 inb_S288x1024_S64x1024_32_0 a b (by omega))).symm
    refine Eq.trans ?_ (extended_above x0 x1 halo 0 a b (by omega) _).symm
    pointwise [k0_pay3]
  · refine Eq.trans ?_ (congrArg (extendedRows x0 x1 halo)
      (stored_emb 0 32 inb_S288x1024_S32x1024_0_0 a b (by omega))).symm
    refine Eq.trans ?_ (dif_pos (show 0 + a.val < 32 by omega)).symm
    exact congrArg (fun i => halo (ix2 i b)) (Fin.ext (Nat.zero_add _).symm)

/-- The gated rows of the whole input under 32 rows of zeros. -/
def padded (x : FVec Ideal S8192x23808 .f32) (n : Fin 8224) (l : Fin 1024) : Ideal .f32 :=
  if h : n.val < 32 then 0 else gated x ⟨n.val - 32, by omega⟩ l

/-- Row `r` of what a grid point convolves, as a row of these. -/
def place (t : Fin cfg0.N) (r : Fin 288) : Fin 8224 := ⟨256 * t.val + r.val, by have : t.val < 32 := t.isLt; omega⟩

/-- What a grid point leaves in the scratch array, when the rows kept from the point before are the ones wanted. -/
theorem scratch_step (t : Fin cfg0.N) (halo : Vec Ideal S32x1024 .f32)
    (hh : ∀ (a : Fin 32) (l : Fin 1024), halo (ix2 a l) = padded (m ((c : Thread nD τ).loc main_arg0)) (place t ⟨a.val, by omega⟩) l)
    (r : Fin 288) (l : Fin 1024) : View.canon (stored (X0_0 m c t) (X0_1 m c t) halo) (ix2 r l)
      = padded (m ((c : Thread nD τ).loc main_arg0)) (place t r) l := by
  have ht : t.val < 32 := t.isLt
  refine (stored_at _ _ _ r l).trans ?_
  unfold extended
  by_cases hr : r.val < 32
  · exact (dif_pos hr).trans (hh ⟨r.val, hr⟩ l)
  · refine (dif_neg hr).trans ?_
    rw [read0, read1]
    refine Eq.trans ?_ (dif_neg (show ¬ 256 * t.val + r.val < 32 by omega)).symm
    have e : row t ⟨r.val - 32, by omega⟩ = ⟨256 * t.val + r.val - 32, by omega⟩ := Fin.ext (by
      show 256 * t.val + (r.val - 32) = 256 * t.val + r.val - 32; omega)
    rw [e]
    rfl

/-- What every grid point leaves in the scratch array. -/
theorem scratch : ∀ (n : ℕ) (t : Fin cfg0.N) (_ : t.val = n) (r : Fin 288) (l : Fin 1024),
    (outsAt0 m c t.val t.isLt).2.2 (ix2 r l) = padded (m ((c : Thread nD τ).loc main_arg0)) (place t r) l := by
  intro n
  induction n with
  | zero =>
    intro t hn r l
    rw [outsAt0_A m c t (by omega) (by omega) (by omega)]
    dsimp only
    frame_out
    refine scratch_step m c t _ (fun a b => ?_) r l
    refine Eq.trans ?_ (dif_pos (show 256 * t.val + a.val < 32 by omega)).symm
    pointwise [k0_pay1]
  | succ n ih =>
    intro t hn r l
    have ht : t.val < 32 := t.isLt
    have hp := ih ⟨t.val - 1, by omega⟩ (by show t.val - 1 = n; omega)
    by_cases h2 : t.val % 32 = 31
    on_goal 1 => rw [outsAt0_C m c t (by omega) (by omega) h2]
    on_goal 2 => rw [outsAt0_B m c t (by omega) (by omega) h2]
    all_goals
      dsimp only
      frame_out
      refine scratch_step m c t _ (fun a b => ?_) r l
      have e : place ⟨t.val - 1, by omega⟩ ⟨256 + a.val, by omega⟩ = place t ⟨a.val, by omega⟩ := Fin.ext (by
        show 256 * (t.val - 1) + (256 + a.val) = 256 * t.val + a.val; omega)
      rw [← e]
      refine Eq.trans ?_ (hp ⟨256 + a.val, by omega⟩ b)
      pointwise [k0_pay2]
      simp only [read_unread_whole]

/-- A convolved row of the whole input. -/
def convolvedRow (x : FVec Ideal S8192x23808 .f32) (w : FVec Ideal S31x1024 .f32) (b : FVec Ideal S1024 .f32) (i : Fin 8192) (l : Fin 1024) :
    EReal := b (ix1 l) + ∑ k : Fin 31, w (ix2 k l) * padded x ⟨i.val + k.val + 2, by omega⟩ l

/-- The column of the branch's gate. -/
def gateCol (l : Fin 1024) : Fin 23808 := ⟨2048 + l.val, by omega⟩

/-- The branch's rows of the whole input. -/
def rows (x : FVec Ideal S8192x23808 .f32) (w : FVec Ideal S31x1024 .f32) (b lg lb : FVec Ideal S1024 .f32) : FVec Ideal S8192x1024 .f32 :=
  fun y => branch (fun l => convolvedRow x w b (y 0) l) (lg (ix1 (y 1))) (lb (ix1 (y 1))) (x (ix2 (y 0) (gateCol (y 1)))) (y 1)

theorem places : ∀ t : Fin cfg0.N, win0_2.index t = ![t.val, 2] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

theorem read2 (t : Fin cfg0.N) (r : Fin 256) (l : Fin 1024) :
    X0_2 m c t (ix2 r l) = m ((c : Thread nD τ).loc main_arg0) (ix2 (row t r) (gateCol l)) := by
  unfold X0_2 Pipeline.Window.fill
  rw [dif_pos (moved0_2 t _)]
  blk_ext [iblk, V, places t]
  all_goals (simp only [row, gateCol] <;> omega)

theorem weights (t : Fin cfg0.N) (k : Fin 31) (l : Fin 1024) :
    iblk m c 3 t (ix2 k l) = m ((c : Thread nD τ).loc main_arg1) (ix2 k l) := by
  blk_ext [iblk, V, places t]

/-- The bias, the scale and the shift at the kernel's call: each as one row. -/
theorem bias (t : Fin cfg0.N) (l : Fin 1024) : iblk m c 4 t (ix2 0 l) = m ((c : Thread nD τ).loc main_arg2) (ix1 l) := by
  have e : V m c main_v0 = shapeCast S1x1024 (m ((c : Thread nD τ).loc main_arg2)) shapeCasts_S1024_S1x1024 := by
    show StableHlo.after hostOps0 _ _ = _
    after_results <;> rfl
  refine Eq.trans (b := shapeCast S1x1024 (m ((c : Thread nD τ).loc main_arg2)) shapeCasts_S1024_S1x1024 (ix2 0 l)) ?_ ?_
  · rw [← e]
    blk_ext [iblk, places t]
  · pointwise
theorem scale (t : Fin cfg0.N) (l : Fin 1024) : iblk m c 5 t (ix2 0 l) = m ((c : Thread nD τ).loc main_arg3) (ix1 l) := by
  have e : V m c main_v1 = shapeCast S1x1024 (m ((c : Thread nD τ).loc main_arg3)) shapeCasts_S1024_S1x1024 := by
    show StableHlo.after hostOps0 _ _ = _
    after_results <;> rfl
  refine Eq.trans (b := shapeCast S1x1024 (m ((c : Thread nD τ).loc main_arg3)) shapeCasts_S1024_S1x1024 (ix2 0 l)) ?_ ?_
  · rw [← e]
    blk_ext [iblk, places t]
  · pointwise
theorem shift (t : Fin cfg0.N) (l : Fin 1024) : iblk m c 6 t (ix2 0 l) = m ((c : Thread nD τ).loc main_arg4) (ix1 l) := by
  have e : V m c main_v2 = shapeCast S1x1024 (m ((c : Thread nD τ).loc main_arg4)) shapeCasts_S1024_S1x1024 := by
    show StableHlo.after hostOps0 _ _ = _
    after_results <;> rfl
  refine Eq.trans (b := shapeCast S1x1024 (m ((c : Thread nD τ).loc main_arg4)) shapeCasts_S1024_S1x1024 (ix2 0 l)) ?_ ?_
  · rw [← e]
    blk_ext [iblk, places t]
  · pointwise

/-- What a grid point convolves is the convolution of the whole input, at its rows. -/
theorem convolved_eq (t : Fin cfg0.N) (a : Fin 256) (l : Fin 1024) :
    convolved (outsAt0 m c t.val t.isLt).2.2 (iblk m c 3 t) (iblk m c 4 t) a l
      = convolvedRow (m ((c : Thread nD τ).loc main_arg0)) (m ((c : Thread nD τ).loc main_arg1)) (m ((c : Thread nD τ).loc main_arg2)) (row t a) l := by
  have ht : t.val < 32 := t.isLt
  unfold convolved convolvedRow
  rw [bias]
  refine congrArg₂ (fun p q : EReal => p + q) rfl (Finset.sum_congr rfl fun k _ => ?_)
  rw [scratch m c t.val t rfl, weights]
  refine congrArg₂ (fun p q : EReal => p * q) rfl (congrArg (fun n => padded _ n l) (Fin.ext ?_))
  show 256 * t.val + (2 + a.val + k.val) = 256 * t.val + a.val + k.val + 2
  omega

theorem final_rows : (dats m 0 c).arrAt 7 cfg0.N = rows (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  rw [after0_7]
  refine (rows_of m c t y).trans ?_
  obtain ⟨a, b, rfl⟩ : ∃ a b, y = ix2 a b := ⟨y 0, y 1, by funext q; match q with | ⟨0, _⟩ => rfl | ⟨1, _⟩ => rfl⟩
  have e : ((cfg0.win 7).blk t).view.emb (ix2 a b) = ix2 (row t a) b := by
    funext q
    apply Fin.ext
    match q with
    | ⟨0, _⟩ =>
      show (win0_7.index t 0) * _ + 1 * a.val = 256 * t.val + a.val
      rw [(places t).2.2.2.2.2]
      show t.val * 256 + 1 * a.val = 256 * t.val + a.val
      omega
    | ⟨1, _⟩ =>
      show (win0_7.index t 1) * _ + 1 * b.val = b.val
      rw [(places t).2.2.2.2.2]
      show 0 * _ + 1 * b.val = b.val
      omega
  refine Eq.trans ?_ (congrArg (rows _ _ _ _ _) e).symm
  show branch (fun l => convolved _ _ _ a l) (iblk m c 5 t (ix2 0 b)) (iblk m c 6 t (ix2 0 b)) (X0_2 m c t (ix2 a b)) b
    = branch (fun l => convolvedRow _ _ _ (row t a) l) (m ((c : Thread nD τ).loc main_arg3) (ix1 b)) (m ((c : Thread nD τ).loc main_arg4) (ix1 b))
      (m ((c : Thread nD τ).loc main_arg0) (ix2 (row t a) (gateCol b))) b
  rw [scale, shift, read2, funext (convolved_eq m c t a)]

end Cert.ConvIdeal.Value
-- ==== Proof.ConvReference.lean ====
/-
  The convolution branch's reference at an index: its rows and the rows it keeps are those that the kernel writes.
-/
module

public import proofs.«01_k».proof.Proof.ConvFinal
public import proofs.«01_k».proof.Proof.Gen.ConvRefIdeal.Read
public import Idealize.ShloMosaic.Lib.Claim

@[expose] public section

set_option maxRecDepth 16384

noncomputable section

open Idealize.ShloMosaic Idealize.ShloMosaic.TcCoe Idealize.SL.Sem

namespace Cert.ConvRefIdeal.Value

open Cert.ConvRefIdeal Cert.ConvRefIdeal.Gen
open Cert.ConvIdeal.Value (gated kept val glu gateCol padded convolvedRow rows branch normal mean sum31 one_by_one)

variable (V0 : Valuation τ sig (Elt Ideal))

theorem gated_at (i : Fin 8192) (l : Fin 1024) : res_main_v9 V0 (ix2 i l) = gated (V0 (Proc.devRef .tc main_arg0)) i l := by
  pointwise [res_main_v9, gated, val, glu]
  rfl

/-- The reference's last rows are the kept rows. -/
theorem reference_tail : Read.val_main_v268 (F := Ideal) (V0 (Proc.devRef .tc main_arg0)) = kept (V0 (Proc.devRef .tc main_arg0)) := by
  rw [← Read.val_main_v268_eq]
  funext y
  obtain ⟨a, b, rfl⟩ : ∃ a b, y = ix2 a b := ⟨y 0, y 1, by funext q; match q with | ⟨0, _⟩ => rfl | ⟨1, _⟩ => rfl⟩
  pointwise
  exact gated_at V0 _ _

/-- The rows that the reference convolves: the gated rows under 30 rows of zeros. -/
theorem padded_at (n : Fin 8222) (l : Fin 1024) :
    res_main_v11 V0 (ix2 n l) = padded (V0 (Proc.devRef .tc main_arg0)) ⟨n.val + 2, by omega⟩ l := by
  unfold res_main_v11
  have hg := gated_at V0
  generalize res_main_v9 V0 = X at hg ⊢
  unfold padded
  by_cases hn : n.val < 30
  · refine Eq.trans ?_ (dif_pos (show n.val + 2 < 32 by omega)).symm
    pointwise
    exact dif_pos hn
  · refine Eq.trans ?_ (dif_neg (show ¬ n.val + 2 < 32 by omega)).symm
    pointwise
    refine (dif_neg hn).trans ((hg _ l).trans (congrArg (fun i => gated _ i l) (Fin.ext ?_)))
    show n.val - 30 = n.val + 2 - 32
    omega

/-- The shifted products added one by one, and the bias after them. -/
theorem bias_after (b : EReal) (w : S31x1024.Idx → EReal) (X : S8222x1024.Idx → EReal) (P : Fin 8224 → EReal) (i : Fin 8192) (l : Fin 1024)
    (hX : ∀ n : Fin 8222, X (ix2 n l) = P ⟨n.val + 2, by omega⟩) :
    sum31 0 (fun k : Fin 31 => w (ix2 k l) * X (ix2 ⟨k.val + i.val, by omega⟩ l)) + b
      = b + ∑ k : Fin 31, w (ix2 k l) * P ⟨i.val + k.val + 2, by omega⟩ := by
  rw [← one_by_one, zero_add, add_comm]
  refine congrArg (b + ·) (Finset.sum_congr rfl fun k _ => ?_)
  rw [hX]
  exact congrArg (fun n => w (ix2 k l) * P n) (Fin.ext (by show k.val + i.val + 2 = i.val + k.val + 2; omega))

theorem convolved_at (i : Fin 8192) (l : Fin 1024) : res_main_v230 V0 (ix2 i l)
    = convolvedRow (V0 (Proc.devRef .tc main_arg0)) (V0 (Proc.devRef .tc main_arg1)) (V0 (Proc.devRef .tc main_arg2)) i l := by
  refine Eq.trans ?_ (bias_after (V0 (Proc.devRef .tc main_arg2) (ix1 l)) (V0 (Proc.devRef .tc main_arg1)) (res_main_v11 V0)
    (fun n => padded (V0 (Proc.devRef .tc main_arg0)) n l) i l (fun n => padded_at V0 n l))
  unfold res_main_v230 res_main_v171 res_main_v94
  generalize res_main_v11 V0 = X
  unfold sum31
  rw [zero_add]
  pointwise

/-- The reference's rows are the branch's rows. -/
theorem reference_rows : Read.val_main_v267 (F := Ideal) (V0 (Proc.devRef .tc main_arg0)) (V0 (Proc.devRef .tc main_arg1))
      (V0 (Proc.devRef .tc main_arg2)) (V0 (Proc.devRef .tc main_arg3)) (V0 (Proc.devRef .tc main_arg4))
    = rows (V0 (Proc.devRef .tc main_arg0)) (V0 (Proc.devRef .tc main_arg1)) (V0 (Proc.devRef .tc main_arg2))
        (V0 (Proc.devRef .tc main_arg3)) (V0 (Proc.devRef .tc main_arg4)) := by
  rw [← Read.val_main_v267_eq]
  funext y
  obtain ⟨a, b, rfl⟩ : ∃ a b, y = ix2 a b := ⟨y 0, y 1, by funext q; match q with | ⟨0, _⟩ => rfl | ⟨1, _⟩ => rfl⟩
  refine Eq.trans ?_ (congrArg (fun z => branch z (V0 (Proc.devRef .tc main_arg3) (ix1 b)) (V0 (Proc.devRef .tc main_arg4) (ix1 b))
    (V0 (Proc.devRef .tc main_arg0) (ix2 a (gateCol b))) b) (funext (convolved_at V0 a)))
  unfold res_main_v252 res_main_v236
  generalize res_main_v230 V0 = Z
  pointwise [res_main_v2, branch, normal, mean]
  rfl

end Cert.ConvRefIdeal.Value
-- ==== Proof.AttnValue.lean ====
/-
  The windows of keys and values that the attention's kernel keeps for the sampling step.

  A window of `w` rows holds, for each of the eight heads of one group, the last `w` keys of the prompt, each of them
  normalised and scaled, and the last `w` values. The kernel stores them at the last block of each head's rows.
-/
module

public import proofs.«01_k».proof.Proof.Gen.AttnIdeal.Frame
public import proofs.«01_k».proof.Proof.Gen.AttnRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-- The column of lane `l` of head `h` of group `g` in the keys. -/
def keyCol (g : Fin 3) (h : Fin 8) (l : Fin 128) : Fin 23808 := ⟨6144 + (1024 * g.val + (128 * h.val + l.val)), by omega⟩

/-- The same in the values. -/
def valueCol (g : Fin 3) (h : Fin 8) (l : Fin 128) : Fin 23808 := ⟨9216 + (1024 * g.val + (128 * h.val + l.val)), by omega⟩

/-- A key of the prompt, normalised over its lanes and scaled. -/
def key (x : FVec Ideal S8192x23808 .f32) (gain : FVec Ideal S128 .f32) (g : Fin 3) (i : Fin 8192) (h : Fin 8) (l : Fin 128) : EReal :=
  x (ix2 i (keyCol g h l)) * Ideal.rsqrt (Ideal.div (∑ q : Fin 128, x (ix2 i (keyCol g h q)) * x (ix2 i (keyCol g h q)))
    (Ideal.ofBits .f32 0x43000000#32) + Ideal.ofBits .f32 0x358637BD#32) * gain (ix1 l)

/-- An entry of a window: of the keys at 0, of the values at 1. -/
def entry (x : FVec Ideal S8192x23808 .f32) (gain : FVec Ideal S128 .f32) (g : Fin 3) (o : Fin 2) (i : Fin 8192) (h : Fin 8)
    (l : Fin 128) : EReal :=
  if o.val = 0 then key x gain g i h l else x (ix2 i (valueCol g h l))

/-- The head that a column of a window belongs to, and its lane there. -/
def head (j : Fin 1024) : Fin 8 := ⟨j.val / 128, by omega⟩
def lane (j : Fin 1024) : Fin 128 := ⟨j.val % 128, by omega⟩

/-- The three windows. -/
def kept128 (x : FVec Ideal S8192x23808 .f32) (gain : FVec Ideal S128 .f32) : FVec Ideal S2x128x1024 .f32 := fun y =>
  entry x gain 0 (y 0) ⟨8064 + (y 1).val, by have : (y 1).val < 128 := (y 1).isLt; omega⟩ (head (y 2)) (lane (y 2))
def kept512 (x : FVec Ideal S8192x23808 .f32) (gain : FVec Ideal S128 .f32) : FVec Ideal S2x512x1024 .f32 := fun y =>
  entry x gain 1 (y 0) ⟨7680 + (y 1).val, by have : (y 1).val < 512 := (y 1).isLt; omega⟩ (head (y 2)) (lane (y 2))
def kept2048 (x : FVec Ideal S8192x23808 .f32) (gain : FVec Ideal S128 .f32) : FVec Ideal S2x2048x1024 .f32 := fun y =>
  entry x gain 2 (y 0) ⟨6144 + (y 1).val, by have : (y 1).val < 2048 := (y 1).isLt; omega⟩ (head (y 2)) (lane (y 2))

/-- The block of each window of the pipeline that the kept rows read or fill, at a grid point. -/
theorem idx : ∀ t : Fin cfg0.N, win0_3.index t = ![t.val % 4, 48 + t.val / 4] ∧ win0_4.index t = ![t.val % 4, 56 + t.val / 4]
    ∧ win0_5.index t = ![t.val % 4, 64 + t.val / 4] ∧ win0_6.index t = ![t.val % 4, 72 + t.val / 4]
    ∧ win0_7.index t = ![t.val % 4, 80 + t.val / 4] ∧ win0_8.index t = ![t.val % 4, 88 + t.val / 4]
    ∧ win0_11.index t = ![0, 0] ∧ win0_13.index t = ![0, 0, t.val / 4] ∧ win0_14.index t = ![0, 0, t.val / 4]
    ∧ win0_15.index t = ![0, 0, t.val / 4] :=
  (by decide +kernel : ∀ t : Fin grid0.N, _)

/-- The head that a grid point works on. -/
def headOf (t : Fin cfg0.N) : Fin 8 := ⟨t.val / 4, by have : t.val < 32 := t.isLt; omega⟩

/-- Row `r` of a grid point's block, as a row of the array. -/
def row (t : Fin cfg0.N) (r : Fin 2048) : Fin 8192 := ⟨2048 * (t.val % 4) + r.val, by omega⟩

variable (c : Dev nD)

theorem keys0 (t : Fin cfg0.N) (r : Fin 2048) (l : Fin 128) :
    iblk m c 3 t (ix2 r l) = m ((c : Thread nD τ).loc main_arg0) (ix2 (row t r) (keyCol 0 (headOf t) l)) := by
  blk_ext [iblk, V, idx t]
  all_goals (simp only [row, keyCol, headOf, Fin.val_zero] <;> omega)
theorem keys1 (t : Fin cfg0.N) (r : Fin 2048) (l : Fin 128) :
    iblk m c 4 t (ix2 r l) = m ((c : Thread nD τ).loc main_arg0) (ix2 (row t r) (keyCol 1 (headOf t) l)) := by
  blk_ext [iblk, V, idx t]
  all_goals (simp only [row, keyCol, headOf, Fin.val_one] <;> omega)
theorem keys2 (t : Fin cfg0.N) (r : Fin 2048) (l : Fin 128) :
    iblk m c 5 t (ix2 r l) = m ((c : Thread nD τ).loc main_arg0) (ix2 (row t r) (keyCol 2 (headOf t) l)) := by
  blk_ext [iblk, V, idx t]
  all_goals (simp only [row, keyCol, headOf, Fin.val_two] <;> omega)
theorem values0 (t : Fin cfg0.N) (r : Fin 2048) (l : Fin 128) :
    iblk m c 6 t (ix2 r l) = m ((c : Thread nD τ).loc main_arg0) (ix2 (row t r) (valueCol 0 (headOf t) l)) := by
  blk_ext [iblk, V, idx t]
  all_goals (simp only [row, valueCol, headOf, Fin.val_zero] <;> omega)
theorem values1 (t : Fin cfg0.N) (r : Fin 2048) (l : Fin 128) :
    iblk m c 7 t (ix2 r l) = m ((c : Thread nD τ).loc main_arg0) (ix2 (row t r) (valueCol 1 (headOf t) l)) := by
  blk_ext [iblk, V, idx t]
  all_goals (simp only [row, valueCol, headOf, Fin.val_one] <;> omega)
theorem values2 (t : Fin cfg0.N) (r : Fin 2048) (l : Fin 128) :
    iblk m c 8 t (ix2 r l) = m ((c : Thread nD τ).loc main_arg0) (ix2 (row t r) (valueCol 2 (headOf t) l)) := by
  blk_ext [iblk, V, idx t]
  all_goals (simp only [row, valueCol, headOf, Fin.val_two] <;> omega)

/-- The keys' gains at the kernel's call: one row of them. -/
theorem gains (t : Fin cfg0.N) (l : Fin 128) : iblk m c 11 t (ix2 0 l) = m ((c : Thread nD τ).loc main_arg2) (ix1 l) := by
  have e : V m c main_v1 = shapeCast S1x128 (m ((c : Thread nD τ).loc main_arg2)) shapeCasts_S128_S1x128 := by
    show StableHlo.after hostOps0 _ _ = _
    after_results <;> rfl
  refine Eq.trans (b := shapeCast S1x128 (m ((c : Thread nD τ).loc main_arg2)) shapeCasts_S128_S1x128 (ix2 0 l)) ?_ ?_
  · rw [← e]
    blk_ext [iblk, idx t]
  · pointwise

/-- Two slabs stored one after the other: each entry is the entry of its own slab. -/
theorem two_slabs (w : ℕ) (p q : Vec Ideal (⟨3, ![1, w, 128]⟩ : Shape) .f32) (L : List (View.Piece (Elt Ideal) (⟨3, ![2, w, 128]⟩ : Shape) .f32))
    (inb) (inb') (o : Fin 2) (r : Fin w) (l : Fin 128) :
    View.canon (⟨Rect.unit (s := (⟨3, ![2, w, 128]⟩ : Shape)) ![1, 0, 0] (⟨3, ![1, w, 128]⟩ : Shape).size inb, q⟩
      :: ⟨Rect.unit (s := (⟨3, ![2, w, 128]⟩ : Shape)) ![0, 0, 0] (⟨3, ![1, w, 128]⟩ : Shape).size inb', p⟩ :: L) (ix3 o r l)
      = if o.val = 0 then p (ix3 0 r l) else q (ix3 0 r l) := by
  have e : ∀ (o : Fin 2) (inb), (Rect.unit (s := (⟨3, ![2, w, 128]⟩ : Shape)) ![o.val, 0, 0] (⟨3, ![1, w, 128]⟩ : Shape).size inb).emb (ix3 0 r l)
      = ix3 o r l := fun o inb => by
    funext a
    apply Fin.ext
    match a with
    | ⟨0, _⟩ => show o.val + 1 * 0 = o.val; omega
    | ⟨1, _⟩ => show 0 + 1 * r.val = r.val; omega
    | ⟨2, _⟩ => show 0 + 1 * l.val = l.val; omega
  by_cases ho : o.val = 0
  · obtain rfl : o = 0 := Fin.ext ho
    rw [if_pos ho, View.canon_cons_of_not_mem]
    · rw [← e 0 inb']
      exact View.canon_cons_emb (Rect.unit (s := (⟨3, ![2, w, 128]⟩ : Shape)) ![0, 0, 0] (⟨3, ![1, w, 128]⟩ : Shape).size inb') p L _
    · exact Rect.not_mem_set_of_axis _ _ (0 : Fin 3) 1 1 rfl rfl rfl (Or.inl (by show 0 < 1; omega))
  · obtain rfl : o = 1 := Fin.ext (by omega)
    rw [if_neg ho, ← e 1 inb]
    exact View.canon_cons_emb (Rect.unit (s := (⟨3, ![2, w, 128]⟩ : Shape)) ![1, 0, 0] (⟨3, ![1, w, 128]⟩ : Shape).size inb) q _ _

/-- The columns of keys and values as the reference counts them. -/
theorem key_column (g : Fin 3) (d : Fin 1024) (l : Fin 128) (n : ℕ) (hn : n = 1024 * g.val + d.val / 128 * 128 + l.val) (h) :
    (⟨6144 + n, h⟩ : Fin 23808) = keyCol g (head d) l :=
  Fin.ext (by simp only [keyCol, head]; omega)
theorem value_column (g : Fin 3) (d : Fin 1024) (l : Fin 128) (n : ℕ) (hn : n = 1024 * g.val + d.val / 128 * 128 + l.val) (h) :
    (⟨9216 + n, h⟩ : Fin 23808) = valueCol g (head d) l :=
  Fin.ext (by simp only [valueCol, head]; omega)

/-- The reference's window of 128 rows is the window of keys and values. -/
theorem reference_kv128 (x0 : FVec Ideal S8192x23808 .f32) (x2 : FVec Ideal S128 .f32) :
    Cert.AttnRefIdeal.Read.val_main_v24 (F := Ideal) x0 x2 = kept128 x0 x2 := by
  funext y
  obtain ⟨a, b, d, rfl⟩ : ∃ a b d, y = ix3 a b d := ⟨y 0, y 1, y 2, by
    funext q; match q with | ⟨0, _⟩ => rfl | ⟨1, _⟩ => rfl | ⟨2, _⟩ => rfl⟩
  rw [← Cert.AttnRefIdeal.Read.val_main_v24_eq]
  pointwise [kept128, entry, key]
  have k : ∀ (l : Fin 128) h, (⟨6144 + (d.val / 128 * 128 + l.val), h⟩ : Fin 23808) = keyCol 0 (head d) l := fun l h =>
    key_column 0 d l _ (by simp only [Fin.val_zero]; omega) h
  have kl : ∀ h, (⟨6144 + (d.val / 128 * 128 + d.val % 128), h⟩ : Fin 23808) = keyCol 0 (head d) (lane d) := k (lane d)
  have vl : ∀ h, (⟨9216 + (d.val / 128 * 128 + d.val % 128), h⟩ : Fin 23808) = valueCol 0 (head d) (lane d) := fun h =>
    value_column 0 d (lane d) _ (by simp only [Fin.val_zero, lane]; omega) h
  simp only [k, kl, vl]
  by_cases ha : a.val = 0
  · exact (dif_pos (show a.val < 1 by omega)).trans (if_pos ha).symm
  · exact (dif_neg (show ¬ a.val < 1 by omega)).trans (if_neg ha).symm

/-- The reference's window of 512 rows is the window of keys and values. -/
theorem reference_kv512 (x0 : FVec Ideal S8192x23808 .f32) (x2 : FVec Ideal S128 .f32) :
    Cert.AttnRefIdeal.Read.val_main_v32 (F := Ideal) x0 x2 = kept512 x0 x2 := by
  funext y
  obtain ⟨a, b, d, rfl⟩ : ∃ a b d, y = ix3 a b d := ⟨y 0, y 1, y 2, by
    funext q; match q with | ⟨0, _⟩ => rfl | ⟨1, _⟩ => rfl | ⟨2, _⟩ => rfl⟩
  rw [← Cert.AttnRefIdeal.Read.val_main_v32_eq]
  pointwise [kept512, entry, key]
  have k : ∀ (l : Fin 128) h, (⟨6144 + (1024 + d.val / 128 * 128 + l.val), h⟩ : Fin 23808) = keyCol 1 (head d) l := fun l h =>
    key_column 1 d l _ (by simp only [Fin.val_one]) h
  have kl : ∀ h, (⟨6144 + (1024 + d.val / 128 * 128 + d.val % 128), h⟩ : Fin 23808) = keyCol 1 (head d) (lane d) := k (lane d)
  have vl : ∀ h, (⟨9216 + (1024 + d.val / 128 * 128 + d.val % 128), h⟩ : Fin 23808) = valueCol 1 (head d) (lane d) := fun h =>
    value_column 1 d (lane d) _ (by simp only [Fin.val_one, lane]) h
  simp only [k, kl, vl]
  by_cases ha : a.val = 0
  · exact (dif_pos (show a.val < 1 by omega)).trans (if_pos ha).symm
  · exact (dif_neg (show ¬ a.val < 1 by omega)).trans (if_neg ha).symm

/-- The reference's window of 2048 rows is the window of keys and values. -/
theorem reference_kv2048 (x0 : FVec Ideal S8192x23808 .f32) (x2 : FVec Ideal S128 .f32) :
    Cert.AttnRefIdeal.Read.val_main_v40 (F := Ideal) x0 x2 = kept2048 x0 x2 := by
  funext y
  obtain ⟨a, b, d, rfl⟩ : ∃ a b d, y = ix3 a b d := ⟨y 0, y 1, y 2, by
    funext q; match q with | ⟨0, _⟩ => rfl | ⟨1, _⟩ => rfl | ⟨2, _⟩ => rfl⟩
  rw [← Cert.AttnRefIdeal.Read.val_main_v40_eq]
  pointwise [kept2048, entry, key]
  have k : ∀ (l : Fin 128) h, (⟨6144 + (2048 + d.val / 128 * 128 + l.val), h⟩ : Fin 23808) = keyCol 2 (head d) l := fun l h =>
    key_column 2 d l _ (by simp only [Fin.val_two]) h
  have kl : ∀ h, (⟨6144 + (2048 + d.val / 128 * 128 + d.val % 128), h⟩ : Fin 23808) = keyCol 2 (head d) (lane d) := k (lane d)
  have vl : ∀ h, (⟨9216 + (2048 + d.val / 128 * 128 + d.val % 128), h⟩ : Fin 23808) = valueCol 2 (head d) (lane d) := fun h =>
    value_column 2 d (lane d) _ (by simp only [Fin.val_two, lane]) h
  simp only [k, kl, vl]
  by_cases ha : a.val = 0
  · exact (dif_pos (show a.val < 1 by omega)).trans (if_pos ha).symm
  · exact (dif_neg (show ¬ a.val < 1 by omega)).trans (if_neg ha).symm

theorem last_flush13 : ∀ t : Fin cfg0.N, (cfg0.win 13).flush t = true → t.val % 4 = 3 :=
  (by decide +kernel : ∀ t : Fin grid0.N, _)
theorem last_flush14 : ∀ t : Fin cfg0.N, (cfg0.win 14).flush t = true → t.val % 4 = 3 :=
  (by decide +kernel : ∀ t : Fin grid0.N, _)
theorem last_flush15 : ∀ t : Fin cfg0.N, (cfg0.win 15).flush t = true → t.val % 4 = 3 :=
  (by decide +kernel : ∀ t : Fin grid0.N, _)

/-- What the last point of a head stores of the window of 128 rows. -/
theorem stored128 (t : Fin cfg0.N) (h : t.val % 4 = 3) (o : Fin 2) (r : Fin 128) (l : Fin 128) :
    (outsAt0 m c t.val t.isLt).2.1 (ix3 o r l)
      = entry (m ((c : Thread nD τ).loc main_arg0)) (m ((c : Thread nD τ).loc main_arg2)) 0 o (row t ⟨1920 + r.val, by omega⟩) (headOf t) l := by
  rw [outsAt0_C m c t (by omega) (by omega) (by omega) (by omega) (by omega) (by omega) h]
  dsimp only
  frame_out
  refine (two_slabs 128 _ _ _ _ _ o r l).trans ?_
  unfold entry
  by_cases ho : o.val = 0
  · refine (if_pos ho).trans (Eq.trans ?_ (if_pos ho).symm)
    pointwise [k0_pay5, k0_pay9]
    simp only [keys0, gains]
    rfl
  · refine (if_neg ho).trans (Eq.trans ?_ (if_neg ho).symm)
    pointwise [k0_pay6]
    rw [values0]

/-- What the last point of a head stores of the window of 512 rows. -/
theorem stored512 (t : Fin cfg0.N) (h : t.val % 4 = 3) (o : Fin 2) (r : Fin 512) (l : Fin 128) :
    (outsAt0 m c t.val t.isLt).2.2.1 (ix3 o r l)
      = entry (m ((c : Thread nD τ).loc main_arg0)) (m ((c : Thread nD τ).loc main_arg2)) 1 o (row t ⟨1536 + r.val, by omega⟩) (headOf t) l := by
  rw [outsAt0_C m c t (by omega) (by omega) (by omega) (by omega) (by omega) (by omega) h]
  dsimp only
  frame_out
  refine (two_slabs 512 _ _ _ _ _ o r l).trans ?_
  unfold entry
  by_cases ho : o.val = 0
  · refine (if_pos ho).trans (Eq.trans ?_ (if_pos ho).symm)
    pointwise [k0_pay7, k0_pay9]
    simp only [keys1, gains]
    rfl
  · refine (if_neg ho).trans (Eq.trans ?_ (if_neg ho).symm)
    pointwise [k0_pay2]
    rw [values1]

/-- What the last point of a head stores of the window of 2048 rows. -/
theorem stored2048 (t : Fin cfg0.N) (h : t.val % 4 = 3) (o : Fin 2) (r : Fin 2048) (l : Fin 128) :
    (outsAt0 m c t.val t.isLt).2.2.2.1 (ix3 o r l)
      = entry (m ((c : Thread nD τ).loc main_arg0)) (m ((c : Thread nD τ).loc main_arg2)) 2 o (row t ⟨0 + r.val, by omega⟩) (headOf t) l := by
  rw [outsAt0_C m c t (by omega) (by omega) (by omega) (by omega) (by omega) (by omega) h]
  dsimp only
  frame_out
  refine (two_slabs 2048 _ _ _ _ _ o r l).trans ?_
  unfold entry
  by_cases ho : o.val = 0
  · refine (if_pos ho).trans (Eq.trans ?_ (if_pos ho).symm)
    pointwise [k0_pay3, k0_pay9]
    simp only [keys2, gains]
    rfl
  · refine (if_neg ho).trans (Eq.trans ?_ (if_neg ho).symm)
    pointwise [k0_pay4]
    rw [values2]

/-- The array of 128 rows' window after the run. -/
theorem final_kv128 : (dats m 0 c).arrAt 13 cfg0.N
    = kept128 (m ((c : Thread nD τ).loc main_arg0)) (m ((c : Thread nD τ).loc main_arg2)) := by
  refine (dats m 0 c).arrAt_eq_of_covers 13 _ (by decide +kernel) fun t hf y => ?_
  have ht : t.val % 4 = 3 := last_flush13 t hf
  rw [after0_13]
  obtain ⟨o, r, l, rfl⟩ : ∃ o r l, y = ix3 o r l := ⟨y 0, y 1, y 2, by
    funext q; match q with | ⟨0, _⟩ => rfl | ⟨1, _⟩ => rfl | ⟨2, _⟩ => rfl⟩
  refine (stored128 m c t ht o r l).trans ?_
  have e0 : (((cfg0.win 13).blk t).view.emb (ix3 o r l)) 0 = o := by
    apply Fin.ext
    show (win0_13.index t 0) * _ + 1 * o.val = o.val
    rw [(idx t).2.2.2.2.2.2.2.1]
    show 0 * _ + 1 * o.val = o.val
    omega
  have e1 : ((((cfg0.win 13).blk t).view.emb (ix3 o r l)) 1).val = r.val := by
    show (win0_13.index t 1) * _ + 1 * r.val = r.val
    rw [(idx t).2.2.2.2.2.2.2.1]
    show 0 * _ + 1 * r.val = r.val
    omega
  have e2 : ((((cfg0.win 13).blk t).view.emb (ix3 o r l)) 2).val = 128 * (t.val / 4) + l.val := by
    show (win0_13.index t 2) * _ + 1 * l.val = _
    rw [(idx t).2.2.2.2.2.2.2.1]
    show (t.val / 4) * 128 + 1 * l.val = _
    omega
  unfold kept128
  rw [e0]
  congr 1
  · refine Fin.ext ?_
    show 2048 * (t.val % 4) + (1920 + r.val) = 8064 + _
    rw [e1]
    omega
  · refine Fin.ext ?_
    show t.val / 4 = _ / 128
    rw [e2]
    omega
  · refine Fin.ext ?_
    show l.val = _ % 128
    rw [e2]
    omega

/-- The array of 512 rows' window after the run. -/
theorem final_kv512 : (dats m 0 c).arrAt 14 cfg0.N
    = kept512 (m ((c : Thread nD τ).loc main_arg0)) (m ((c : Thread nD τ).loc main_arg2)) := by
  refine (dats m 0 c).arrAt_eq_of_covers 14 _ (by decide +kernel) fun t hf y => ?_
  have ht : t.val % 4 = 3 := last_flush14 t hf
  rw [after0_14]
  obtain ⟨o, r, l, rfl⟩ : ∃ o r l, y = ix3 o r l := ⟨y 0, y 1, y 2, by
    funext q; match q with | ⟨0, _⟩ => rfl | ⟨1, _⟩ => rfl | ⟨2, _⟩ => rfl⟩
  refine (stored512 m c t ht o r l).trans ?_
  have e0 : (((cfg0.win 14).blk t).view.emb (ix3 o r l)) 0 = o := by
    apply Fin.ext
    show (win0_14.index t 0) * _ + 1 * o.val = o.val
    rw [(idx t).2.2.2.2.2.2.2.2.1]
    show 0 * _ + 1 * o.val = o.val
    omega
  have e1 : ((((cfg0.win 14).blk t).view.emb (ix3 o r l)) 1).val = r.val := by
    show (win0_14.index t 1) * _ + 1 * r.val = r.val
    rw [(idx t).2.2.2.2.2.2.2.2.1]
    show 0 * _ + 1 * r.val = r.val
    omega
  have e2 : ((((cfg0.win 14).blk t).view.emb (ix3 o r l)) 2).val = 128 * (t.val / 4) + l.val := by
    show (win0_14.index t 2) * _ + 1 * l.val = _
    rw [(idx t).2.2.2.2.2.2.2.2.1]
    show (t.val / 4) * 128 + 1 * l.val = _
    omega
  unfold kept512
  rw [e0]
  congr 1
  · refine Fin.ext ?_
    show 2048 * (t.val % 4) + (1536 + r.val) = 7680 + _
    rw [e1]
    omega
  · refine Fin.ext ?_
    show t.val / 4 = _ / 128
    rw [e2]
    omega
  · refine Fin.ext ?_
    show l.val = _ % 128
    rw [e2]
    omega

/-- The array of 2048 rows' window after the run. -/
theorem final_kv2048 : (dats m 0 c).arrAt 15 cfg0.N
    = kept2048 (m ((c : Thread nD τ).loc main_arg0)) (m ((c : Thread nD τ).loc main_arg2)) := by
  refine (dats m 0 c).arrAt_eq_of_covers 15 _ (by decide +kernel) fun t hf y => ?_
  have ht : t.val % 4 = 3 := last_flush15 t hf
  rw [after0_15]
  obtain ⟨o, r, l, rfl⟩ : ∃ o r l, y = ix3 o r l := ⟨y 0, y 1, y 2, by
    funext q; match q with | ⟨0, _⟩ => rfl | ⟨1, _⟩ => rfl | ⟨2, _⟩ => rfl⟩
  refine (stored2048 m c t ht o r l).trans ?_
  have e0 : (((cfg0.win 15).blk t).view.emb (ix3 o r l)) 0 = o := by
    apply Fin.ext
    show (win0_15.index t 0) * _ + 1 * o.val = o.val
    rw [(idx t).2.2.2.2.2.2.2.2.2]
    show 0 * _ + 1 * o.val = o.val
    omega
  have e1 : ((((cfg0.win 15).blk t).view.emb (ix3 o r l)) 1).val = r.val := by
    show (win0_15.index t 1) * _ + 1 * r.val = r.val
    rw [(idx t).2.2.2.2.2.2.2.2.2]
    show 0 * _ + 1 * r.val = r.val
    omega
  have e2 : ((((cfg0.win 15).blk t).view.emb (ix3 o r l)) 2).val = 128 * (t.val / 4) + l.val := by
    show (win0_15.index t 2) * _ + 1 * l.val = _
    rw [(idx t).2.2.2.2.2.2.2.2.2]
    show (t.val / 4) * 128 + 1 * l.val = _
    omega
  unfold kept2048
  rw [e0]
  congr 1
  · refine Fin.ext ?_
    show 2048 * (t.val % 4) + (0 + r.val) = 6144 + _
    rw [e1]
    omega
  · refine Fin.ext ?_
    show t.val / 4 = _ / 128
    rw [e2]
    omega
  · refine Fin.ext ?_
    show l.val = _ % 128
    rw [e2]
    omega

end Cert.AttnIdeal.Value
-- ==== Proof.RecUnit.lean ====
/-
  One chunk of 64 tokens for one head, as the kernel computes it on the blocks it loads.

  `advance` is the state that the chunk leaves, `emit` the 64 rows of the result. `chain` runs the chunks of one grid
  point, four of them, from the slab of the state that the point finds. The lemmas read both at an index.
-/
module

public import proofs.«01_k».proof.Proof.Gen.RecIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIdeal.Unit

open Cert.RecIdeal Cert.RecIdeal.Gen

variable {F : FTy → Type} [FloatOps F]

/-- The state of one head after one chunk, of the state before it and the chunk's blocks. -/
def advance (s : Vec F S1x128x128 .f32) (u0 : Vec F S64x128 .f32) (w : Vec F S64x128 .bf16) (e : Vec F S1x1x128 .f32)
    (kd : Vec F S1x128x64 .bf16) : FVec F S1x128x128 .f32 := k0_pay8 s u0 w e kd

/-- The rows one chunk gives for one head: the read of the state and of the chunk, normalised and gated. -/
def emit (s : Vec F S1x128x128 .f32) (u0 : Vec F S64x128 .f32) (w : Vec F S64x128 .bf16) (qd : Vec F S64x128 .bf16)
    (qk : Vec F S64x64 .bf16) (gate : Vec F S64x128 .f32) (og : Vec F S1x128 .f32) : FVec F S64x128 .f32 :=
  k0_pay9 (k0_pay3 og) (k0_pay7 s u0 w qd qk) gate

/-- Rows `64 c …` and lanes `128 h …` lie within a point's block. -/
theorem tile_inb (c : ℕ) (hc : c < 4) (h : Fin 8) :
    ∀ a, (![64 * c, 128 * h.val] : Fin 2 → ℕ) a + S64x128.size a ≤ S256x1024.size a := by
  have := h.isLt
  intro a
  match a with
  | ⟨0, _⟩ => show 64 * c + 64 ≤ 256; omega
  | ⟨1, _⟩ => show 128 * h.val + 128 ≤ 1024; omega

/-- The first 64 of the lanes `128 h …` lie within a point's block. -/
theorem half_inb (c : ℕ) (hc : c < 4) (h : Fin 8) :
    ∀ a, (![64 * c, 128 * h.val] : Fin 2 → ℕ) a + S64x64.size a ≤ S256x1024.size a := by
  have := h.isLt
  intro a
  match a with
  | ⟨0, _⟩ => show 64 * c + 64 ≤ 256; omega
  | ⟨1, _⟩ => show 128 * h.val + 64 ≤ 1024; omega

theorem key_inb (c : ℕ) (hc : c < 4) (h : Fin 8) :
    ∀ a, (![c, 128 * h.val, 0] : Fin 3 → ℕ) a + S1x128x64.size a ≤ S4x1024x64.size a := by
  have := h.isLt
  intro a
  match a with
  | ⟨0, _⟩ => show c + 1 ≤ 4; omega
  | ⟨1, _⟩ => show 128 * h.val + 128 ≤ 1024; omega
  | ⟨2, _⟩ => show 0 + 64 ≤ 64; omega

theorem decay_inb (c : ℕ) (hc : c < 4) (h : Fin 8) :
    ∀ a, (![c, h.val, 0] : Fin 3 → ℕ) a + S1x1x128.size a ≤ S4x8x128.size a := by
  have := h.isLt
  intro a
  match a with
  | ⟨0, _⟩ => show c + 1 ≤ 4; omega
  | ⟨1, _⟩ => show h.val + 1 ≤ 8; omega
  | ⟨2, _⟩ => show 0 + 128 ≤ 128; omega

theorem slab_inb (h : Fin 8) : ∀ a, (![h.val, 0, 0] : Fin 3 → ℕ) a + S1x128x128.size a ≤ S8x128x128.size a := by
  have := h.isLt
  intro a
  match a with
  | ⟨0, _⟩ => show h.val + 1 ≤ 8; omega
  | ⟨1, _⟩ => show 0 + 128 ≤ 128; omega
  | ⟨2, _⟩ => show 0 + 128 ≤ 128; omega

/-- Chunk `c`, head `h` of a block of 256 rows and 1024 lanes. -/
def tile {e : EltTy} (x : Vec F S256x1024 e) (c : ℕ) (hc : c < 4) (h : Fin 8) : Vec F S64x128 e :=
  View.ld x (Rect.unit (s := S256x1024) ![64 * c, 128 * h.val] S64x128.size (tile_inb c hc h))

/-- The first 64 lanes of chunk `c`, head `h`. -/
def half {e : EltTy} (x : Vec F S256x1024 e) (c : ℕ) (hc : c < 4) (h : Fin 8) : Vec F S64x64 e :=
  View.ld x (Rect.unit (s := S256x1024) ![64 * c, 128 * h.val] S64x64.size (half_inb c hc h))

/-- The transposed keys of chunk `c`, head `h`. -/
def key {e : EltTy} (x : Vec F S4x1024x64 e) (c : ℕ) (hc : c < 4) (h : Fin 8) : Vec F S1x128x64 e :=
  View.ld x (Rect.unit (s := S4x1024x64) ![c, 128 * h.val, 0] S1x128x64.size (key_inb c hc h))

/-- The decay of chunk `c`, head `h`. -/
def decay {e : EltTy} (x : Vec F S4x8x128 e) (c : ℕ) (hc : c < 4) (h : Fin 8) : Vec F S1x1x128 e :=
  View.ld x (Rect.unit (s := S4x8x128) ![c, h.val, 0] S1x1x128.size (decay_inb c hc h))

/-- The slab of head `h` of the state. -/
def slab {e : EltTy} (x : Vec F S8x128x128 e) (h : Fin 8) : Vec F S1x128x128 e :=
  View.ld x (Rect.unit (s := S8x128x128) ![h.val, 0, 0] S1x128x128.size (slab_inb h))

/-- The state of head `h` after the first `c` chunks of a grid point. -/
def chain (x0 : Vec F S256x1024 .f32) (x1 : Vec F S256x1024 .bf16) (x3 : Vec F S4x1024x64 .bf16) (x5 : Vec F S4x8x128 .f32)
    (xs : Vec F S8x128x128 .f32) : (c : ℕ) → c ≤ 4 → Fin 8 → Vec F S1x128x128 .f32
  | 0, _, h => slab xs h
  | c + 1, hc, h => advance (chain x0 x1 x3 x5 xs c (by omega) h) (tile x0 c hc h) (tile x1 c hc h) (decay x5 c hc h) (key x3 c hc h)

/-- The state after a grid point, of the state before it and the point's blocks. -/
def pointState (x0 : Vec F S256x1024 .f32) (x1 : Vec F S256x1024 .bf16) (x3 : Vec F S4x1024x64 .bf16) (x5 : Vec F S4x8x128 .f32)
    (xs : Vec F S8x128x128 .f32) : Vec F S8x128x128 .f32 :=
  fun y => chain x0 x1 x3 x5 xs 4 (by omega) (y 0) (ix3 0 (y 1) (y 2))

/-- The state after a grid point, read in the slab of head `h`. -/
theorem pointState_emb (x0 : Vec F S256x1024 .f32) (x1 : Vec F S256x1024 .bf16) (x3 : Vec F S4x1024x64 .bf16)
    (x5 : Vec F S4x8x128 .f32) (xs : Vec F S8x128x128 .f32) (h : ℕ) (hh : h < 8)
    (inb : ∀ a, (![h, 0, 0] : Fin 3 → ℕ) a + S1x128x128.size a ≤ S8x128x128.size a) (x : S1x128x128.Idx) :
    pointState x0 x1 x3 x5 xs ((Rect.unit (s := S8x128x128) ![h, 0, 0] S1x128x128.size inb).emb x)
      = chain x0 x1 x3 x5 xs 4 (by omega) ⟨h, hh⟩ x := by
  have h0 : (x 0).val = 0 := by have : (x 0).val < 1 := (x 0).isLt; omega
  unfold pointState
  have e0 : (Rect.unit (s := S8x128x128) ![h, 0, 0] S1x128x128.size inb).emb x 0 = (⟨h, hh⟩ : Fin 8) := by
    apply Fin.ext; show h + 1 * (x 0).val = h; omega
  have e1 : (ix3 0 ((Rect.unit (s := S8x128x128) ![h, 0, 0] S1x128x128.size inb).emb x 1)
      ((Rect.unit (s := S8x128x128) ![h, 0, 0] S1x128x128.size inb).emb x 2) : S1x128x128.Idx) = x := by
    funext a
    apply Fin.ext
    match a with
    | ⟨0, _⟩ => exact h0.symm
    | ⟨1, _⟩ => show 0 + 1 * (x 1).val = (x 1).val; omega
    | ⟨2, _⟩ => show 0 + 1 * (x 2).val = (x 2).val; omega
  rw [e1]
  exact congrArg (fun k => chain x0 x1 x3 x5 xs 4 (by omega) k x) e0

/-- An index whose leading coordinate is `h` lies in the slab of head `h`. -/
theorem slab_mem (h : ℕ) (y : S8x128x128.Idx) (e : (y 0).val = h)
    (inb : ∀ a, (![h, 0, 0] : Fin 3 → ℕ) a + S1x128x128.size a ≤ S8x128x128.size a) :
    y ∈ (Rect.unit (s := S8x128x128) ![h, 0, 0] S1x128x128.size inb).set := by
  refine Rect.mem_set_unit.mpr fun a => ?_
  match a with
  | ⟨0, _⟩ => show h ≤ (y 0).val ∧ (y 0).val < h + 1; omega
  | ⟨1, _⟩ => have : (y 1).val < 128 := (y 1).isLt; show 0 ≤ (y 1).val ∧ (y 1).val < 0 + 128; omega
  | ⟨2, _⟩ => have : (y 2).val < 128 := (y 2).isLt; show 0 ≤ (y 2).val ∧ (y 2).val < 0 + 128; omega

/-- Eight stores of a whole slab each, one per head, over whatever was stored before: if each stores the head's state
after the point's chunks, the buffer holds the state after the point. -/
theorem canon_slabs (x0 : Vec Ideal S256x1024 .f32) (x1 : Vec Ideal S256x1024 .bf16) (x3 : Vec Ideal S4x1024x64 .bf16)
    (x5 : Vec Ideal S4x8x128 .f32) (xs : Vec Ideal S8x128x128 .f32)
    (p7 p6 p5 p4 p3 p2 p1 p0 : Vec Ideal S1x128x128 .f32) (L : List (View.Piece (Elt Ideal) S8x128x128 .f32))
    (h7 : p7 = chain x0 x1 x3 x5 xs 4 (by omega) 7)
    (h6 : p6 = chain x0 x1 x3 x5 xs 4 (by omega) 6)
    (h5 : p5 = chain x0 x1 x3 x5 xs 4 (by omega) 5)
    (h4 : p4 = chain x0 x1 x3 x5 xs 4 (by omega) 4)
    (h3 : p3 = chain x0 x1 x3 x5 xs 4 (by omega) 3)
    (h2 : p2 = chain x0 x1 x3 x5 xs 4 (by omega) 2)
    (h1 : p1 = chain x0 x1 x3 x5 xs 4 (by omega) 1)
    (h0 : p0 = chain x0 x1 x3 x5 xs 4 (by omega) 0)
    (y : S8x128x128.Idx) :
    View.canon (⟨Rect.unit (s := S8x128x128) ![7, 0, 0] S1x128x128.size (slab_inb 7), p7⟩ ::
      ⟨Rect.unit (s := S8x128x128) ![6, 0, 0] S1x128x128.size (slab_inb 6), p6⟩ ::
      ⟨Rect.unit (s := S8x128x128) ![5, 0, 0] S1x128x128.size (slab_inb 5), p5⟩ ::
      ⟨Rect.unit (s := S8x128x128) ![4, 0, 0] S1x128x128.size (slab_inb 4), p4⟩ ::
      ⟨Rect.unit (s := S8x128x128) ![3, 0, 0] S1x128x128.size (slab_inb 3), p3⟩ ::
      ⟨Rect.unit (s := S8x128x128) ![2, 0, 0] S1x128x128.size (slab_inb 2), p2⟩ ::
      ⟨Rect.unit (s := S8x128x128) ![1, 0, 0] S1x128x128.size (slab_inb 1), p1⟩ ::
      ⟨Rect.unit (s := S8x128x128) ![0, 0, 0] S1x128x128.size (slab_inb 0), p0⟩ :: L) y
      = pointState x0 x1 x3 x5 xs y := by
  subst h7 h6 h5 h4 h3 h2 h1 h0
  have at_slab : ∀ (h : Fin 8) (x : S1x128x128.Idx), chain x0 x1 x3 x5 xs 4 (by omega) h x
      = pointState x0 x1 x3 x5 xs ((Rect.unit (s := S8x128x128) ![h.val, 0, 0] S1x128x128.size (slab_inb h)).emb x) :=
    fun h x => (pointState_emb x0 x1 x3 x5 xs h.val h.isLt (slab_inb h) x).symm
  refine View.canon_append_of_piecesOf (pointState x0 x1 x3 x5 xs) L [_, _, _, _, _, _, _, _]
    ⟨at_slab 7, at_slab 6, at_slab 5, at_slab 4, at_slab 3, at_slab 2, at_slab 1, at_slab 0, trivial⟩ y ?_
  have hy : (y 0).val < 8 := (y 0).isLt
  rcases (by omega : (y 0).val = 7 ∨ (y 0).val = 6 ∨ (y 0).val = 5 ∨ (y 0).val = 4 ∨ (y 0).val = 3 ∨ (y 0).val = 2 ∨
    (y 0).val = 1 ∨ (y 0).val = 0) with e | e | e | e | e | e | e | e
  · exact ⟨_, .head _, slab_mem 7 y e (slab_inb 7)⟩
  · exact ⟨_, .tail _ (.head _), slab_mem 6 y e (slab_inb 6)⟩
  · exact ⟨_, .tail _ (.tail _ (.head _)), slab_mem 5 y e (slab_inb 5)⟩
  · exact ⟨_, .tail _ (.tail _ (.tail _ (.head _))), slab_mem 4 y e (slab_inb 4)⟩
  · exact ⟨_, .tail _ (.tail _ (.tail _ (.tail _ (.head _)))), slab_mem 3 y e (slab_inb 3)⟩
  · exact ⟨_, .tail _ (.tail _ (.tail _ (.tail _ (.tail _ (.head _))))), slab_mem 2 y e (slab_inb 2)⟩
  · exact ⟨_, .tail _ (.tail _ (.tail _ (.tail _ (.tail _ (.tail _ (.head _)))))), slab_mem 1 y e (slab_inb 1)⟩
  · exact ⟨_, .tail _ (.tail _ (.tail _ (.tail _ (.tail _ (.tail _ (.tail _ (.head _))))))), slab_mem 0 y e (slab_inb 0)⟩

/-- A read of the whole buffer after stores that cover it. -/
theorem readCov_whole {κ : Kind} {sp : Space} (v : View sig κ sp S8x128x128 .f32) (L : List (View.Piece (Elt Ideal) S8x128x128 .f32))
    (inb : ∀ a, (![0, 0, 0] : Fin 3 → ℕ) a + S8x128x128.size a ≤ S8x128x128.size a) :
    v.readCov L (Rect.unit (s := S8x128x128) ![0, 0, 0] S8x128x128.size inb).toLoadRect = View.canon L := by
  refine (View.readCov_eq_canon' v L _).trans (funext fun y => congrArg (View.canon L) (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

section Rows

variable (x0 : Vec F S256x1024 .f32) (x1 x2 : Vec F S256x1024 .bf16) (x3 : Vec F S4x1024x64 .bf16)
  (x4 : Vec F S256x1024 .bf16) (x5 : Vec F S4x8x128 .f32) (x6 : Vec F S256x1024 .f32) (x7 : Vec F S1x128 .f32)
  (xs : Vec F S8x128x128 .f32)

/-- The rows that chunk `c` of a grid point gives for head `h`. -/
def chunkRows (c : ℕ) (hc : c < 4) (h : Fin 8) : FVec F S64x128 .f32 :=
  emit (chain x0 x1 x3 x5 xs c (by omega) h) (tile x0 c hc h) (tile x1 c hc h) (tile x2 c hc h) (half x4 c hc h)
    (tile x6 c hc h) x7

/-- The block of the result that a grid point gives. -/
def pointRows : Vec F S256x1024 .f32 := fun y =>
  chunkRows x0 x1 x2 x3 x4 x5 x6 x7 xs ((y 0).val / 64) (by have : (y 0).val < 256 := (y 0).isLt; omega)
    ⟨(y 1).val / 128, by have : (y 1).val < 1024 := (y 1).isLt; omega⟩
    (ix2 ⟨(y 0).val % 64, Nat.mod_lt _ (by decide)⟩ ⟨(y 1).val % 128, Nat.mod_lt _ (by decide)⟩)

/-- The block at row `a + x 0` and lane `b + x 1`, where `a` and `b` are the corner of a tile of 64 by 128. -/
theorem pointRows_at (a b : ℕ) (y : S256x1024.Idx) (x : S64x128.Idx) (h0 : (y 0).val = a + (x 0).val)
    (h1 : (y 1).val = b + (x 1).val) (ha : a % 64 = 0) (hb : b % 128 = 0) (ha' : a / 64 < 4) (hb' : b / 128 < 8) :
    pointRows x0 x1 x2 x3 x4 x5 x6 x7 xs y = chunkRows x0 x1 x2 x3 x4 x5 x6 x7 xs (a / 64) ha' ⟨b / 128, hb'⟩ x := by
  have hx0 : (x 0).val < 64 := (x 0).isLt
  have hx1 : (x 1).val < 128 := (x 1).isLt
  unfold pointRows
  have e0 : (y 0).val / 64 = a / 64 := by omega
  have e1 : (⟨(y 1).val / 128, by have : (y 1).val < 1024 := (y 1).isLt; omega⟩ : Fin 8) = ⟨b / 128, hb'⟩ :=
    Fin.ext (by show (y 1).val / 128 = b / 128; omega)
  have e2 : (ix2 ⟨(y 0).val % 64, Nat.mod_lt _ (by decide)⟩ ⟨(y 1).val % 128, Nat.mod_lt _ (by decide)⟩ : S64x128.Idx) = x := by
    funext k
    apply Fin.ext
    match k with
    | ⟨0, _⟩ => show (y 0).val % 64 = (x 0).val; omega
    | ⟨1, _⟩ => show (y 1).val % 128 = (x 1).val; omega
  rw [e1, e2]
  simp only [e0]

end Rows

end Cert.RecIdeal.Unit
-- ==== Proof.RecState.lean ====
/-
  The state of the recurrence that the kernel leaves after one grid point, of the point's blocks and the state it finds.
-/
module

public import proofs.«01_k».proof.Proof.RecUnit
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIdeal.Point

open Cert.RecIdeal Cert.RecIdeal.Gen Cert.RecIdeal.Unit

variable (m : (ℓ : Loc nD τ sig) → Buf (Elt Ideal) ℓ)

set_option maxHeartbeats 2000000

/-- The state kept for the next point, at the first point, which starts from zero. -/
theorem state_A (c : Dev nD) (t : Fin cfg0.N) (h0 : t.val % 32 = 0) (h1 : ¬t.val % 32 = 31) :
    (outsAt0 m c t.val t.isLt).2.2
      = pointState (iblk m c 0 t) (iblk m c 1 t) (iblk m c 3 t) (iblk m c 5 t)
          (k0_pay2 (F := Ideal)) := by
  rw [outsAt0_A m c t h0 h1]
  dsimp only
  frame_open
  simp (disch := decide) only [↓ View.readCov_skip, ↓ View.readCov_cons_toLoadRect, ↓ View.readCov_fill]
  frame_out
  generalize iblk m c 0 t = x0
  generalize iblk m c 1 t = x1
  generalize iblk m c 3 t = x3
  generalize iblk m c 5 t = x5
  funext y
  refine canon_slabs x0 x1 x3 x5 _ _ _ _ _ _ _ _ _ _ ?_ ?_ ?_ ?_ ?_ ?_ ?_ ?_ y <;> rfl

/-- The state kept for the next point, at a point in the middle. -/
theorem state_B (c : Dev nD) (t : Fin cfg0.N) (h0 : ¬t.val % 32 = 0) (h1 : ¬t.val % 32 = 31) :
    (outsAt0 m c t.val t.isLt).2.2
      = pointState (iblk m c 0 t) (iblk m c 1 t) (iblk m c 3 t) (iblk m c 5 t)
          (outsAt0 m c (t.val - 1) (Nat.lt_of_le_of_lt (Nat.sub_le _ _) t.isLt)).2.2 := by
  rw [outsAt0_B m c t h0 h1]
  dsimp only
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 3 t = x3
  generalize iblk m c 5 t = x5
  generalize (outsAt0 m c (t.val - 1) (Nat.lt_of_le_of_lt (Nat.sub_le _ _) t.isLt)).2.2 = xs
  funext y
  refine canon_slabs x0 x1 x3 x5 xs _ _ _ _ _ _ _ _ _ ?_ ?_ ?_ ?_ ?_ ?_ ?_ ?_ y <;> rfl

/-- The state kept for the next point, at the last point. -/
theorem state_C (c : Dev nD) (t : Fin cfg0.N) (h0 : ¬t.val % 32 = 0) (h1 : t.val % 32 = 31) :
    (outsAt0 m c t.val t.isLt).2.2
      = pointState (iblk m c 0 t) (iblk m c 1 t) (iblk m c 3 t) (iblk m c 5 t)
          (outsAt0 m c (t.val - 1) (Nat.lt_of_le_of_lt (Nat.sub_le _ _) t.isLt)).2.2 := by
  rw [outsAt0_C m c t h0 h1]
  dsimp only
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 3 t = x3
  generalize iblk m c 5 t = x5
  generalize (outsAt0 m c (t.val - 1) (Nat.lt_of_le_of_lt (Nat.sub_le _ _) t.isLt)).2.2 = xs
  funext y
  refine canon_slabs x0 x1 x3 x5 xs _ _ _ _ _ _ _ _ _ ?_ ?_ ?_ ?_ ?_ ?_ ?_ ?_ y <;> rfl

/-- The state that is a result of the call, at the last point. -/
theorem result_C (c : Dev nD) (t : Fin cfg0.N) (h0 : ¬t.val % 32 = 0) (h1 : t.val % 32 = 31) :
    (outsAt0 m c t.val t.isLt).2.1
      = pointState (iblk m c 0 t) (iblk m c 1 t) (iblk m c 3 t) (iblk m c 5 t)
          (outsAt0 m c (t.val - 1) (Nat.lt_of_le_of_lt (Nat.sub_le _ _) t.isLt)).2.2 := by
  rw [outsAt0_C m c t h0 h1]
  dsimp only
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 3 t = x3
  generalize iblk m c 5 t = x5
  generalize (outsAt0 m c (t.val - 1) (Nat.lt_of_le_of_lt (Nat.sub_le _ _) t.isLt)).2.2 = xs
  funext y
  refine (congrFun (readCov_whole _ _ (by decide)) y).trans ?_
  refine canon_slabs x0 x1 x3 x5 xs _ _ _ _ _ _ _ _ _ ?_ ?_ ?_ ?_ ?_ ?_ ?_ ?_ y <;> rfl

end Cert.RecIdeal.Point
-- ==== Proof.RecRows.lean ====
/-
  The rows of the result that the recurrence's kernel stores at one grid point, of the point's blocks and the state it
  finds.
-/
module

public import proofs.«01_k».proof.Proof.RecUnit
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIdeal.Point

open Cert.RecIdeal Cert.RecIdeal.Gen Cert.RecIdeal.Unit

variable (m : (ℓ : Loc nD τ sig) → Buf (Elt Ideal) ℓ)

set_option maxHeartbeats 2000000

/-- The rows of the result at the first point, which starts from zero. -/
theorem rows_A (c : Dev nD) (t : Fin cfg0.N) (h0 : t.val % 32 = 0) (h1 : ¬t.val % 32 = 31) :
    (outsAt0 m c t.val t.isLt).1
      = pointRows (iblk m c 0 t) (iblk m c 1 t) (iblk m c 2 t) (iblk m c 3 t) (iblk m c 4 t) (iblk m c 5 t) (X0_6 m c t)
          (iblk m c 7 t) (k0_pay2 (F := Ideal)) := by
  rw [outsAt0_A m c t h0 h1]
  dsimp only
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  generalize iblk m c 4 t = x4
  generalize iblk m c 5 t = x5
  generalize X0_6 m c t = x6
  generalize iblk m c 7 t = x7
  funext y
  canon_tiles x h
  all_goals
    refine Eq.trans ?_ (pointRows_at x0 x1 x2 x3 x4 x5 x6 x7 _ _ _ y x
      (by first | exact h0 | exact h0.trans (Nat.zero_add _).symm) (by first | exact h1 | exact h1.trans (Nat.zero_add _).symm)
      (by decide) (by decide) (by decide) (by decide)).symm
    rfl

/-- The rows of the result at a point in the middle. -/
theorem rows_B (c : Dev nD) (t : Fin cfg0.N) (h0 : ¬t.val % 32 = 0) (h1 : ¬t.val % 32 = 31) :
    (outsAt0 m c t.val t.isLt).1
      = pointRows (iblk m c 0 t) (iblk m c 1 t) (iblk m c 2 t) (iblk m c 3 t) (iblk m c 4 t) (iblk m c 5 t) (X0_6 m c t)
          (iblk m c 7 t) (outsAt0 m c (t.val - 1) (Nat.lt_of_le_of_lt (Nat.sub_le _ _) t.isLt)).2.2 := by
  rw [outsAt0_B m c t h0 h1]
  dsimp only
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize X0_6 m c t = x6
  generalize iblk m c 7 t = x7
  generalize (outsAt0 m c (t.val - 1) (Nat.lt_of_le_of_lt (Nat.sub_le _ _) t.isLt)).2.2 = xs
  funext y
  canon_tiles x h
  all_goals
    refine Eq.trans ?_ (pointRows_at x0 x1 x2 x3 x4 x5 x6 x7 xs _ _ y x
      (by first | exact h0 | exact h0.trans (Nat.zero_add _).symm) (by first | exact h1 | exact h1.trans (Nat.zero_add _).symm)
      (by decide) (by decide) (by decide) (by decide)).symm
    rfl

/-- The rows of the result at the last point. -/
theorem rows_C (c : Dev nD) (t : Fin cfg0.N) (h0 : ¬t.val % 32 = 0) (h1 : t.val % 32 = 31) :
    (outsAt0 m c t.val t.isLt).1
      = pointRows (iblk m c 0 t) (iblk m c 1 t) (iblk m c 2 t) (iblk m c 3 t) (iblk m c 4 t) (iblk m c 5 t) (X0_6 m c t)
          (iblk m c 7 t) (outsAt0 m c (t.val - 1) (Nat.lt_of_le_of_lt (Nat.sub_le _ _) t.isLt)).2.2 := by
  rw [outsAt0_C m c t h0 h1]
  dsimp only
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize X0_6 m c t = x6
  generalize iblk m c 7 t = x7
  generalize (outsAt0 m c (t.val - 1) (Nat.lt_of_le_of_lt (Nat.sub_le _ _) t.isLt)).2.2 = xs
  funext y
  canon_tiles x h
  all_goals
    refine Eq.trans ?_ (pointRows_at x0 x1 x2 x3 x4 x5 x6 x7 xs _ _ y x
      (by first | exact h0 | exact h0.trans (Nat.zero_add _).symm) (by first | exact h1 | exact h1.trans (Nat.zero_add _).symm)
      (by decide) (by decide) (by decide) (by decide)).symm
    rfl

end Cert.RecIdeal.Point
-- ==== Proof.RecModel.lean ====
/-
  The gated delta rule over chunks of 64 tokens, on the call's own arrays.

  `corr` is a chunk's values with the state's share taken off, `next` the state that a chunk leaves, `states` the
  states before each chunk, from zero, and `result` the rows: the read of the state and of the chunk, normalised over
  its 128 lanes and gated.
-/
module

public import proofs.«01_k».proof.Proof.Gen.RecIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Recurrence

open Cert.RecIdeal

/-- Row `r` of chunk `n`. -/
def row (n : Fin 128) (r : Fin 64) : Fin 8192 := ⟨64 * n.val + r.val, by have := n.isLt; have := r.isLt; omega⟩

/-- Lane `k` of head `h`. -/
def lane (h : Fin 8) (k : Fin 128) : Fin 1024 := ⟨128 * h.val + k.val, by have := h.isLt; have := k.isLt; omega⟩

/-- Of a head's lanes the first 64, which hold the chunk's products of queries and keys. -/
def first (r : Fin 64) : Fin 128 := ⟨r.val, by have := r.isLt; omega⟩

/-- The column of the gate for lane `k` of head `h`. -/
def gateLane (h : Fin 8) (k : Fin 128) : Fin 23808 :=
  ⟨16384 + (128 * h.val + k.val), by have := h.isLt; have := k.isLt; omega⟩

variable (u0 : FVec Ideal S8192x1024 .f32) (w qd : FVec Ideal S8192x1024 .bf16) (kdt : FVec Ideal S128x1024x64 .bf16)
  (qk : FVec Ideal S8192x1024 .bf16) (e : FVec Ideal S128x8x128 .f32) (proj : FVec Ideal S8192x23808 .f32)
  (og : FVec Ideal S128 .f32)

/-- The values of chunk `n` with the share of the state `S` taken off. -/
def corr (S : FVec Ideal S8x128x128 .f32) (n : Fin 128) (h : Fin 8) (r : Fin 64) (j : Fin 128) : EReal :=
  u0 (ix2 (row n r) (lane h j)) - ∑ k : Fin 128, w (ix2 (row n r) (lane h k)) * S (ix3 h k j)

/-- The state that chunk `n` leaves, of the state `S` before it. -/
def next (S : FVec Ideal S8x128x128 .f32) (n : Fin 128) : FVec Ideal S8x128x128 .f32 := fun y =>
  (e (ix3 n (y 0) (y 2)) * S (ix3 (y 0) (y 1) (y 2))
    + ∑ r : Fin 64, kdt (ix3 n (lane (y 0) (y 1)) r) * corr u0 w S n (y 0) r (y 2) : EReal)

/-- The state before chunk `n`; the first is zero. -/
def states : ℕ → FVec Ideal S8x128x128 .f32
  | 0 => fun _ => (0 : EReal)
  | n + 1 => next u0 w kdt e (states n) ⟨n % 128, Nat.mod_lt _ (by decide)⟩

/-- What chunk `n` reads of the state `S` and of itself. -/
def read (S : FVec Ideal S8x128x128 .f32) (n : Fin 128) (h : Fin 8) (r : Fin 64) (j : Fin 128) : EReal :=
  ∑ k : Fin 128, qd (ix2 (row n r) (lane h k)) * S (ix3 h k j)
    + ∑ r' : Fin 64, qk (ix2 (row n r) (lane h (first r'))) * corr u0 w S n h r' j

/-- One entry of the result, of the 128 values that the read gives at its row and of its gate. -/
def gated (o : Fin 128 → EReal) (g z : EReal) (j : Fin 128) : EReal :=
  o j * Ideal.rsqrt (Ideal.div (∑ l, o l * o l) (Ideal.ofBits FTy.f32 1124073472#32) + Ideal.ofBits FTy.f32 897988541#32) * g
    * (z * Ideal.logistic z)

/-- The rows of chunk `n` and head `h`. -/
def rows (S : FVec Ideal S8x128x128 .f32) (n : Fin 128) (h : Fin 8) (r : Fin 64) (j : Fin 128) : EReal :=
  gated (read u0 w qd qk S n h r) (og (ix1 j)) (proj (ix2 (row n r) (gateLane h j))) j

/-- The whole result. -/
def result : FVec Ideal S8192x1024 .f32 := fun y =>
  rows u0 w qd qk proj og
    (states u0 w kdt e ((y 0).val / 64)) ⟨(y 0).val / 64, by have : (y 0).val < 8192 := (y 0).isLt; omega⟩
    ⟨(y 1).val / 128, by have : (y 1).val < 1024 := (y 1).isLt; omega⟩ ⟨(y 0).val % 64, Nat.mod_lt _ (by decide)⟩
    ⟨(y 1).val % 128, Nat.mod_lt _ (by decide)⟩

end Cert.Recurrence
-- ==== Proof.RecChunks.lean ====
/-
  One grid point's four chunks against the rule on the whole arrays: where the point's blocks are the arrays' rows of
  chunks `4 p`, `4 p + 1`, …, and the state found is the state before chunk `4 p`, the state left is the one before chunk
  `4 p + 4` and the rows are the result's.
-/
module

public import proofs.«01_k».proof.Proof.RecUnit
public import proofs.«01_k».proof.Proof.RecModel
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIdeal.Unit

open Cert.RecIdeal Cert.RecIdeal.Gen Cert.Recurrence

/-- The state after a chunk, at an index. -/
theorem advance_at (s : Vec Ideal S1x128x128 .f32) (u0 : Vec Ideal S64x128 .f32) (w : Vec Ideal S64x128 .bf16)
    (e : Vec Ideal S1x1x128 .f32) (kd : Vec Ideal S1x128x64 .bf16) (i j : Fin 128) :
    advance s u0 w e kd (ix3 0 i j)
      = (e (ix3 0 0 j) * s (ix3 0 i j)
          + ∑ r : Fin 64, kd (ix3 0 i r) * (u0 (ix2 r j) - ∑ k : Fin 128, w (ix2 r k) * s (ix3 0 k j)) : EReal) := by
  pointwise [advance, k0_pay8, k0_pay6, k0_pay5, k0_pay4]

/-- The rows of a chunk, at an index. -/
theorem emit_at (s : Vec Ideal S1x128x128 .f32) (u0 : Vec Ideal S64x128 .f32) (w qd : Vec Ideal S64x128 .bf16)
    (qk : Vec Ideal S64x64 .bf16) (gate : Vec Ideal S64x128 .f32) (og : Vec Ideal S1x128 .f32) (i : Fin 64) (j : Fin 128) :
    emit s u0 w qd qk gate og (ix2 i j)
      = gated (fun l => (∑ k : Fin 128, qd (ix2 i k) * s (ix3 0 k l)
          + ∑ r : Fin 64, qk (ix2 i r) * (u0 (ix2 r l) - ∑ k : Fin 128, w (ix2 r k) * s (ix3 0 k l)) : EReal))
          (og (ix2 0 j)) (gate (ix2 i j)) j := by
  pointwise [emit, k0_pay9, k0_pay3, k0_pay7, k0_pay6, k0_pay5, k0_pay4, gated]

/-- Row `r` of a point's block. -/
def blockRow (c : ℕ) (hc : c < 4) (r : Fin 64) : Fin 256 := ⟨64 * c + r.val, by have := r.isLt; omega⟩

theorem tile_at {e : EltTy} (x : Vec Ideal S256x1024 e) (c : ℕ) (hc : c < 4) (h : Fin 8) (r : Fin 64) (j : Fin 128) :
    tile x c hc h (ix2 r j) = x (ix2 (blockRow c hc r) (lane h j)) := by
  refine congrArg x (funext fun a => Fin.ext ?_)
  match a with
  | ⟨0, _⟩ => show 64 * c + 1 * r.val = 64 * c + r.val; omega
  | ⟨1, _⟩ => show 128 * h.val + 1 * j.val = 128 * h.val + j.val; omega

theorem half_at {e : EltTy} (x : Vec Ideal S256x1024 e) (c : ℕ) (hc : c < 4) (h : Fin 8) (r j : Fin 64) :
    half x c hc h (ix2 r j) = x (ix2 (blockRow c hc r) (lane h (first j))) := by
  refine congrArg x (funext fun a => Fin.ext ?_)
  match a with
  | ⟨0, _⟩ => show 64 * c + 1 * r.val = 64 * c + r.val; omega
  | ⟨1, _⟩ => show 128 * h.val + 1 * j.val = 128 * h.val + j.val; omega

theorem key_at {e : EltTy} (x : Vec Ideal S4x1024x64 e) (c : ℕ) (hc : c < 4) (h : Fin 8) (i : Fin 128) (r : Fin 64) :
    key x c hc h (ix3 0 i r) = x (ix3 ⟨c, hc⟩ (lane h i) r) := by
  refine congrArg x (funext fun a => Fin.ext ?_)
  match a with
  | ⟨0, _⟩ => show c + 1 * 0 = c; omega
  | ⟨1, _⟩ => show 128 * h.val + 1 * i.val = 128 * h.val + i.val; omega
  | ⟨2, _⟩ => show 0 + 1 * r.val = r.val; omega

theorem decay_at {e : EltTy} (x : Vec Ideal S4x8x128 e) (c : ℕ) (hc : c < 4) (h : Fin 8) (j : Fin 128) :
    decay x c hc h (ix3 0 0 j) = x (ix3 ⟨c, hc⟩ h j) := by
  refine congrArg x (funext fun a => Fin.ext ?_)
  match a with
  | ⟨0, _⟩ => show c + 1 * 0 = c; omega
  | ⟨1, _⟩ => show h.val + 1 * 0 = h.val; omega
  | ⟨2, _⟩ => show 0 + 1 * j.val = j.val; omega

theorem slab_at {e : EltTy} (x : Vec Ideal S8x128x128 e) (h : Fin 8) (i j : Fin 128) :
    slab x h (ix3 0 i j) = x (ix3 h i j) := by
  refine congrArg x (funext fun a => Fin.ext ?_)
  match a with
  | ⟨0, _⟩ => show h.val + 1 * 0 = h.val; omega
  | ⟨1, _⟩ => show 0 + 1 * i.val = i.val; omega
  | ⟨2, _⟩ => show 0 + 1 * j.val = j.val; omega

variable {u0 : FVec Ideal S8192x1024 .f32} {w qd : FVec Ideal S8192x1024 .bf16} {kdt : FVec Ideal S128x1024x64 .bf16}
  {qk : FVec Ideal S8192x1024 .bf16} {e : FVec Ideal S128x8x128 .f32} {proj : FVec Ideal S8192x23808 .f32}
  {og : FVec Ideal S128 .f32}
  {x0 : Vec Ideal S256x1024 .f32} {x1 x2 : Vec Ideal S256x1024 .bf16} {x3 : Vec Ideal S4x1024x64 .bf16}
  {x4 : Vec Ideal S256x1024 .bf16} {x5 : Vec Ideal S4x8x128 .f32} {x6 : Vec Ideal S256x1024 .f32} {x7 : Vec Ideal S1x128 .f32}
  {xs : Vec Ideal S8x128x128 .f32}

/-- Row `r` of grid point `p`'s block, in the arrays. -/
def arrayRow (p : Fin 32) (r : Fin 256) : Fin 8192 := ⟨256 * p.val + r.val, by have := p.isLt; have := r.isLt; omega⟩

/-- Chunk `c` of grid point `p`. -/
def chunkOf (p : Fin 32) (c : Fin 4) : Fin 128 := ⟨4 * p.val + c.val, by have := p.isLt; have := c.isLt; omega⟩

theorem arrayRow_block (p : Fin 32) (c : ℕ) (hc : c < 4) (r : Fin 64) :
    arrayRow p (blockRow c hc r) = row (chunkOf p ⟨c, hc⟩) r :=
  Fin.ext (by show 256 * p.val + (64 * c + r.val) = 64 * (4 * p.val + c) + r.val; omega)

/-- The point's blocks are the arrays' rows and chunks that belong to it, and the state it finds is the rule's. -/
structure At (u0 : FVec Ideal S8192x1024 .f32) (w : FVec Ideal S8192x1024 .bf16) (kdt : FVec Ideal S128x1024x64 .bf16)
    (e : FVec Ideal S128x8x128 .f32) (x0 : Vec Ideal S256x1024 .f32) (x1 : Vec Ideal S256x1024 .bf16)
    (x3 : Vec Ideal S4x1024x64 .bf16) (x5 : Vec Ideal S4x8x128 .f32) (xs : Vec Ideal S8x128x128 .f32) (p : Fin 32) : Prop where
  h0 : ∀ r l, x0 (ix2 r l) = u0 (ix2 (arrayRow p r) l)
  h1 : ∀ r l, x1 (ix2 r l) = w (ix2 (arrayRow p r) l)
  h3 : ∀ c k r, x3 (ix3 c k r) = kdt (ix3 (chunkOf p c) k r)
  h5 : ∀ c h j, x5 (ix3 c h j) = e (ix3 (chunkOf p c) h j)
  hs : xs = states u0 w kdt e (4 * p.val)

/-- After the point's first `c` chunks the slab of head `h` is the rule's state before chunk `4 p + c`. -/
theorem chain_eq {p : Fin 32} (H : At u0 w kdt e x0 x1 x3 x5 xs p) : ∀ (c : ℕ) (hc : c ≤ 4) (h : Fin 8) (i j : Fin 128),
    chain x0 x1 x3 x5 xs c hc h (ix3 0 i j) = states u0 w kdt e (4 * p.val + c) (ix3 h i j)
  | 0, hc, h, i, j => by
    rw [show chain x0 x1 x3 x5 xs 0 hc h = slab xs h from rfl, slab_at, H.hs]; rfl
  | c + 1, hc, h, i, j => by
    have hp := p.isLt
    have hn : (⟨(4 * p.val + c) % 128, Nat.mod_lt _ (by decide)⟩ : Fin 128) = chunkOf p ⟨c, hc⟩ :=
      Fin.ext (by show (4 * p.val + c) % 128 = 4 * p.val + c; omega)
    rw [show chain x0 x1 x3 x5 xs (c + 1) hc h = advance (chain x0 x1 x3 x5 xs c (by omega) h) (tile x0 c hc h) (tile x1 c hc h)
        (decay x5 c hc h) (key x3 c hc h) from rfl, advance_at,
      show states u0 w kdt e (4 * p.val + (c + 1)) (ix3 h i j)
        = next u0 w kdt e (states u0 w kdt e (4 * p.val + c)) ⟨(4 * p.val + c) % 128, Nat.mod_lt _ (by decide)⟩ (ix3 h i j) from rfl, hn]
    simp only [tile_at, decay_at, key_at, chain_eq H c, H.h0, H.h1, H.h3, H.h5, arrayRow_block]
    rfl

/-- The state that the point leaves is the rule's state before the next point's first chunk. -/
theorem pointState_eq {p : Fin 32} (H : At u0 w kdt e x0 x1 x3 x5 xs p) :
    pointState x0 x1 x3 x5 xs = states u0 w kdt e (4 * p.val + 4) := by
  funext y
  refine (chain_eq H 4 (by omega) (y 0) (y 1) (y 2)).trans (congrArg _ (funext fun a => ?_))
  match a with
  | ⟨0, _⟩ => rfl
  | ⟨1, _⟩ => rfl
  | ⟨2, _⟩ => rfl

/-- The rows of chunk `c` and head `h` are the rule's. -/
theorem chunkRows_eq {p : Fin 32} (H : At u0 w kdt e x0 x1 x3 x5 xs p) (h2 : ∀ r l, x2 (ix2 r l) = qd (ix2 (arrayRow p r) l))
    (h4 : ∀ r l, x4 (ix2 r l) = qk (ix2 (arrayRow p r) l))
    (h6 : ∀ r h j, x6 (ix2 r (lane h j)) = proj (ix2 (arrayRow p r) (gateLane h j)))
    (h7 : ∀ j, x7 (ix2 0 j) = og (ix1 j)) (c : ℕ) (hc : c < 4) (h : Fin 8) (r : Fin 64) (j : Fin 128) :
    chunkRows x0 x1 x2 x3 x4 x5 x6 x7 xs c hc h (ix2 r j)
      = rows u0 w qd qk proj og (states u0 w kdt e (4 * p.val + c)) (chunkOf p ⟨c, hc⟩) h r j := by
  rw [show chunkRows x0 x1 x2 x3 x4 x5 x6 x7 xs c hc h = emit (chain x0 x1 x3 x5 xs c (by omega) h) (tile x0 c hc h) (tile x1 c hc h)
    (tile x2 c hc h) (half x4 c hc h) (tile x6 c hc h) x7 from rfl, emit_at]
  simp only [tile_at, half_at, chain_eq H c, H.h0, H.h1, h2, h4, h6, h7, arrayRow_block]
  rfl

/-- The block of rows that the point gives is the rule's result at the point's rows. -/
theorem pointRows_eq {p : Fin 32} (H : At u0 w kdt e x0 x1 x3 x5 xs p) (h2 : ∀ r l, x2 (ix2 r l) = qd (ix2 (arrayRow p r) l))
    (h4 : ∀ r l, x4 (ix2 r l) = qk (ix2 (arrayRow p r) l))
    (h6 : ∀ r h j, x6 (ix2 r (lane h j)) = proj (ix2 (arrayRow p r) (gateLane h j)))
    (h7 : ∀ j, x7 (ix2 0 j) = og (ix1 j)) (y : S256x1024.Idx) :
    pointRows x0 x1 x2 x3 x4 x5 x6 x7 xs y = result u0 w qd kdt qk e proj og (ix2 (arrayRow p (y 0)) (y 1)) := by
  have hp := p.isLt
  have hy0 : (y 0).val < 256 := (y 0).isLt
  refine (chunkRows_eq H h2 h4 h6 h7 _ _ _ _ _).trans ?_
  have e0 : 4 * p.val + (y 0).val / 64 = (256 * p.val + (y 0).val) / 64 := by omega
  have e1 : chunkOf p ⟨(y 0).val / 64, by omega⟩ = ⟨(256 * p.val + (y 0).val) / 64, by omega⟩ := Fin.ext e0
  have e2 : (⟨(y 0).val % 64, Nat.mod_lt _ (by decide)⟩ : Fin 64)
      = ⟨(256 * p.val + (y 0).val) % 64, Nat.mod_lt _ (by decide)⟩ :=
    Fin.ext (by show (y 0).val % 64 = (256 * p.val + (y 0).val) % 64; omega)
  rw [e0, e1, e2]
  rfl

end Cert.RecIdeal.Unit
-- ==== Proof.RecValue.lean ====
/-
  The arrays that the recurrence's kernel leaves: the rule's rows and its last state.
-/
module

public import proofs.«01_k».proof.Proof.RecState
public import proofs.«01_k».proof.Proof.RecRows
public import proofs.«01_k».proof.Proof.RecChunks
public import Idealize.ShloMosaic.Lib.Pipeline.ValueKit.Held
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecIdeal.Value

open Cert.RecIdeal Cert.RecIdeal.Gen Cert.RecIdeal.Unit Cert.RecIdeal.Point Cert.Recurrence

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![t.val, 0]
    ∧ win0_3.index t = ![t.val, 0, 0] ∧ win0_4.index t = ![t.val, 0] ∧ win0_5.index t = ![t.val, 0, 0]
    ∧ win0_6.index t = ![t.val, 16] ∧ win0_7.index t = ![0, 0] ∧ win0_8.index t = ![t.val, 0] ∧ win0_9.index t = ![0, 0, 0] :=
  (by decide +kernel : ∀ t : Fin grid0.N, _)

/-- The grid point as a number below 32. -/
def pt (t : Fin cfg0.N) : Fin 32 := ⟨t.val, t.isLt⟩

variable (c : Dev nD)

/-- The rule's states of the call's arrays. -/
abbrev st : ℕ → FVec Ideal S8x128x128 .f32 :=
  states (m ((c.tc : Thread nD τ).loc main_arg0)) (m ((c.tc : Thread nD τ).loc main_arg1)) (m ((c.tc : Thread nD τ).loc main_arg3)) (m ((c.tc : Thread nD τ).loc main_arg5))

theorem read0 (t : Fin cfg0.N) (r : Fin 256) (l : Fin 1024) :
    iblk m c 0 t (ix2 r l) = m ((c.tc : Thread nD τ).loc main_arg0) (ix2 (arrayRow (pt t) r) l) := by
  blk_ext [iblk, V, idx t]
  all_goals (simp only [arrayRow, chunkOf, lane, gateLane, pt] <;> omega)
theorem read1 (t : Fin cfg0.N) (r : Fin 256) (l : Fin 1024) :
    iblk m c 1 t (ix2 r l) = m ((c.tc : Thread nD τ).loc main_arg1) (ix2 (arrayRow (pt t) r) l) := by
  blk_ext [iblk, V, idx t]
  all_goals (simp only [arrayRow, chunkOf, lane, gateLane, pt] <;> omega)
theorem read2 (t : Fin cfg0.N) (r : Fin 256) (l : Fin 1024) :
    iblk m c 2 t (ix2 r l) = m ((c.tc : Thread nD τ).loc main_arg2) (ix2 (arrayRow (pt t) r) l) := by
  blk_ext [iblk, V, idx t]
  all_goals (simp only [arrayRow, chunkOf, lane, gateLane, pt] <;> omega)
theorem read3 (t : Fin cfg0.N) (k : Fin 4) (l : Fin 1024) (r : Fin 64) :
    iblk m c 3 t (ix3 k l r) = m ((c.tc : Thread nD τ).loc main_arg3) (ix3 (chunkOf (pt t) k) l r) := by
  blk_ext [iblk, V, idx t]
  all_goals (simp only [arrayRow, chunkOf, lane, gateLane, pt] <;> omega)
theorem read4 (t : Fin cfg0.N) (r : Fin 256) (l : Fin 1024) :
    iblk m c 4 t (ix2 r l) = m ((c.tc : Thread nD τ).loc main_arg4) (ix2 (arrayRow (pt t) r) l) := by
  blk_ext [iblk, V, idx t]
  all_goals (simp only [arrayRow, chunkOf, lane, gateLane, pt] <;> omega)
theorem read5 (t : Fin cfg0.N) (k : Fin 4) (h : Fin 8) (j : Fin 128) :
    iblk m c 5 t (ix3 k h j) = m ((c.tc : Thread nD τ).loc main_arg5) (ix3 (chunkOf (pt t) k) h j) := by
  blk_ext [iblk, V, idx t]
  all_goals (simp only [arrayRow, chunkOf, lane, gateLane, pt] <;> omega)
theorem read6 (t : Fin cfg0.N) (r : Fin 256) (h : Fin 8) (j : Fin 128) :
    X0_6 m c t (ix2 r (lane h j)) = m ((c.tc : Thread nD τ).loc main_arg6) (ix2 (arrayRow (pt t) r) (gateLane h j)) := by
  unfold X0_6 Pipeline.Window.fill
  rw [dif_pos (moved0_6 t _)]
  blk_ext [iblk, V, idx t]
  all_goals (simp only [arrayRow, chunkOf, lane, gateLane, pt] <;> omega)
theorem read7 (t : Fin cfg0.N) (j : Fin 128) : iblk m c 7 t (ix2 0 j) = m ((c.tc : Thread nD τ).loc main_arg7) (ix1 j) := by
  blk_point [iblk, V, idx t]

/-- A point's blocks are the arrays' rows, if the state it finds is the rule's. -/
theorem at_of (t : Fin cfg0.N) (xs : Vec Ideal S8x128x128 .f32) (h : xs = st m c (4 * t.val)) :
    At (m ((c.tc : Thread nD τ).loc main_arg0)) (m ((c.tc : Thread nD τ).loc main_arg1)) (m ((c.tc : Thread nD τ).loc main_arg3)) (m ((c.tc : Thread nD τ).loc main_arg5)) (iblk m c 0 t) (iblk m c 1 t)
      (iblk m c 3 t) (iblk m c 5 t) xs (pt t) :=
  ⟨read0 m c t, read1 m c t, read3 m c t, read5 m c t, h⟩

/-- The zero fill is the rule's first state. -/
theorem fill_eq : (k0_pay2 (F := Ideal)) = st m c 0 := by
  funext y
  pointwise [k0_pay2]
  rfl

/-- The state kept after point `n`. -/
theorem state_after (n : ℕ) (h : n < cfg0.N) : (outsAt0 m c n h).2.2 = st m c (4 * n + 4) := by
  induction n with
  | zero =>
    have hA : At _ _ _ _ _ _ _ _ _ _ := at_of m c ⟨0, h⟩ (k0_pay2 (F := Ideal)) (fill_eq m c)
    exact (state_A m c ⟨0, h⟩ (Nat.zero_mod 32) (by show ¬ 0 % 32 = 31; decide)).trans (pointState_eq hA)
  | succ n ih =>
    have hN : n + 1 < 32 := h
    have hB : At _ _ _ _ _ _ _ _ _ _ := at_of m c ⟨n + 1, h⟩ (outsAt0 m c n (by omega)).2.2 (ih (by omega))
    by_cases hl : (n + 1) % 32 = 31
    · exact (state_C m c ⟨n + 1, h⟩ (by show ¬ (n + 1) % 32 = 0; omega) hl).trans (pointState_eq hB)
    · exact (state_B m c ⟨n + 1, h⟩ (by show ¬ (n + 1) % 32 = 0; omega) hl).trans (pointState_eq hB)

/-- The rule's rows of the call's arrays. -/
abbrev res : FVec Ideal S8192x1024 .f32 :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The rows a point stores. -/
theorem rows_after (t : Fin cfg0.N) (y : S256x1024.Idx) :
    (outsAt0 m c t.val t.isLt).1 y = res m c (ix2 (arrayRow (pt t) (y 0)) (y 1)) := by
  have hN : t.val < 32 := t.isLt
  by_cases h0 : t.val % 32 = 0
  · have ht : t.val = 0 := by omega
    rw [rows_A m c t h0 (by omega)]
    exact pointRows_eq (at_of m c t _ ((fill_eq m c).trans (by rw [ht]))) (read2 m c t) (read4 m c t) (read6 m c t) (read7 m c t) y
  · have hs := state_after m c (t.val - 1) (by omega)
    rw [show 4 * (t.val - 1) + 4 = 4 * t.val by omega] at hs
    by_cases h1 : t.val % 32 = 31
    · rw [rows_C m c t h0 h1]
      exact pointRows_eq (at_of m c t _ hs) (read2 m c t) (read4 m c t) (read6 m c t) (read7 m c t) y
    · rw [rows_B m c t h0 h1]
      exact pointRows_eq (at_of m c t _ hs) (read2 m c t) (read4 m c t) (read6 m c t) (read7 m c t) y

/-- The array of rows after the run. -/
theorem final_rows : (dats m 0 c).arrAt 8 cfg0.N = res m c := by
  refine (dats m 0 c).arrAt_eq_of_covers 8 _ (by decide +kernel) fun t _ y => ?_
  rw [after0_8]
  refine (rows_after m c t y).trans ?_
  blk_ext [idx t]
  all_goals (simp only [arrayRow, chunkOf, lane, gateLane, pt] <;> omega)

/-- The state's window is written back at the last point alone. -/
theorem last_flush : ∀ t : Fin cfg0.N, (cfg0.win 9).flush t = true → t.val = 31 :=
  (by decide +kernel : ∀ t : Fin grid0.N, _)

/-- The array of states after the run. -/
theorem final_state : (dats m 0 c).arrAt 9 cfg0.N = st m c 128 := by
  refine (dats m 0 c).arrAt_eq_of_covers 9 _ (by decide +kernel) fun t hf y => ?_
  have ht : t.val = 31 := last_flush t hf
  rw [after0_9]
  refine (congrFun ((result_C m c t (by omega) (by omega)).trans
    (pointState_eq (at_of m c t _ ((state_after m c (t.val - 1) (Nat.lt_of_le_of_lt (Nat.sub_le _ _) t.isLt)).trans (by rw [ht]))))) y).trans ?_
  show st m c (4 * t.val + 4) _ = _
  rw [ht]
  blk_ext [idx t]

end Cert.RecIdeal.Value
-- ==== Proof.RecRef.lean ====
/-
  The reference's recurrence, one step at a time: step `n` takes the rule's state before chunk `n` to the one after it
  and writes the chunk's read at place `n` of the outputs.
-/
module

public import proofs.«01_k».proof.Proof.Gen.RecRefIdeal.Run
public import proofs.«01_k».proof.Proof.RecModel
public import Idealize.ShloMosaic.Lib.Pipeline.ValueKit
public import Idealize.ShloMosaic.Lib.DynamicIndex
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.RecRefIdeal.Steps

open Cert.RecRefIdeal Cert.RecRefIdeal.Gen Cert.RecRefIdeal.Value Cert.Recurrence

/-- A chunk's number, as a word, is itself. -/
theorem word : ∀ n : Fin 128, (BitVec.ofNat 32 n.val).toInt = (n.val : Int) := by decide +kernel

/-- The places of the slices, as the loop computes them. -/
abbrev start4 (n : ℕ) : Fin 4 → Int := fun k =>
  ((![constantI S_ 32 (BitVec.ofNat 32 n), constantI S_ 32 0#32, constantI S_ 32 0#32, constantI S_ 32 0#32] :
    Fin 4 → (⟨S_, .i32⟩ : BufTy).Contents (Elt Ideal)) k (Shape.Idx.first h_S_)).toInt

abbrev start3 (n : ℕ) : Fin 3 → Int := fun k =>
  ((![constantI S_ 32 (BitVec.ofNat 32 n), constantI S_ 32 0#32, constantI S_ 32 0#32] :
    Fin 3 → (⟨S_, .i32⟩ : BufTy).Contents (Elt Ideal)) k (Shape.Idx.first h_S_)).toInt

theorem start4_eq (n : Fin 128) (a : Fin 4) : start4 n.val a = ((![n.val, 0, 0, 0] : Fin 4 → ℕ) a : Int) := by
  match a with
  | ⟨0, _⟩ => exact word n
  | ⟨1, _⟩ => rfl
  | ⟨2, _⟩ => rfl
  | ⟨3, _⟩ => rfl

theorem start3_eq (n : Fin 128) (a : Fin 3) : start3 n.val a = ((![n.val, 0, 0] : Fin 3 → ℕ) a : Int) := by
  match a with
  | ⟨0, _⟩ => exact word n
  | ⟨1, _⟩ => rfl
  | ⟨2, _⟩ => rfl

/-- Chunk `n` of an array of 128 chunks lies within it. -/
theorem slices4 {b d : ℕ} (n : Fin 128) :
    (⟨4, ![128, 8, b, d]⟩ : Shape).Slices ![n.val, 0, 0, 0] (⟨4, ![1, 8, b, d]⟩ : Shape) := by
  have := n.isLt
  refine ⟨rfl, fun a => ?_⟩
  match a with
  | ⟨0, _⟩ => show n.val + 1 ≤ 128; omega
  | ⟨1, _⟩ => show 0 + 8 ≤ 8; omega
  | ⟨2, _⟩ => show 0 + b ≤ b; omega
  | ⟨3, _⟩ => show 0 + d ≤ d; omega

theorem slices3 {b : ℕ} (n : Fin 128) :
    (⟨3, ![128, 8, b]⟩ : Shape).Slices ![n.val, 0, 0] (⟨3, ![1, 8, b]⟩ : Shape) := by
  have := n.isLt
  refine ⟨rfl, fun a => ?_⟩
  match a with
  | ⟨0, _⟩ => show n.val + 1 ≤ 128; omega
  | ⟨1, _⟩ => show 0 + 8 ≤ 8; omega
  | ⟨2, _⟩ => show 0 + b ≤ b; omega

/-- A slice that the loop cuts at its number is chunk `n`. -/
theorem cut4 {b d : ℕ} (x : Vec Ideal (⟨4, ![128, 8, b, d]⟩ : Shape) .f32) (n : Fin 128) (hs) (h : Fin 8) (r : Fin b) (k : Fin d) :
    Host.dynamicSlice (⟨4, ![1, 8, b, d]⟩ : Shape) x (start4 n.val) hs (ix4 0 h r k) = x (ix4 n h r k) := by
  rw [Host.dynamicSlice_eq_extractStridedSlice _ x (start4 n.val) ![n.val, 0, 0, 0] hs (slices4 n) (start4_eq n)]
  refine congrArg x (funext fun a => Fin.ext ?_)
  match a with
  | ⟨0, _⟩ => show n.val + 0 = n.val; omega
  | ⟨1, _⟩ => show 0 + h.val = h.val; omega
  | ⟨2, _⟩ => show 0 + r.val = r.val; omega
  | ⟨3, _⟩ => show 0 + k.val = k.val; omega

theorem cut3 {b : ℕ} (x : Vec Ideal (⟨3, ![128, 8, b]⟩ : Shape) .f32) (n : Fin 128) (hs) (h : Fin 8) (r : Fin b) :
    Host.dynamicSlice (⟨3, ![1, 8, b]⟩ : Shape) x (start3 n.val) hs (ix3 0 h r) = x (ix3 n h r) := by
  rw [Host.dynamicSlice_eq_extractStridedSlice _ x (start3 n.val) ![n.val, 0, 0] hs (slices3 n) (start3_eq n)]
  refine congrArg x (funext fun a => Fin.ext ?_)
  match a with
  | ⟨0, _⟩ => show n.val + 0 = n.val; omega
  | ⟨1, _⟩ => show 0 + h.val = h.val; omega
  | ⟨2, _⟩ => show 0 + r.val = r.val; omega

/-- An array of chunks after the loop stores a chunk at its number. -/
theorem put4 {b d : ℕ} (x : Vec Ideal (⟨4, ![128, 8, b, d]⟩ : Shape) .f32) (u : Vec Ideal (⟨4, ![1, 8, b, d]⟩ : Shape) .f32)
    (n n' : Fin 128) (hs) (h : Fin 8) (r : Fin b) (k : Fin d) :
    Host.dynamicUpdateSlice x u (start4 n.val) hs (ix4 n' h r k) = if n' = n then u (ix4 0 h r k) else x (ix4 n' h r k) := by
  rw [Host.dynamicUpdateSlice_eq_updateSlice x u (start4 n.val) hs ![n.val, 0, 0, 0] (fun a => by
    have := (slices4 (b := b) (d := d) n).2 a; rw [start4_eq n a]; omega) (slices4 n)]
  pointwise
  by_cases hn : n' = n
  · subst hn
    rw [dif_pos ⟨Nat.le_refl _, Nat.lt_succ_self _⟩, if_pos rfl]
    refine congrArg u (funext fun a => Fin.ext ?_)
    match a with
    | ⟨0, _⟩ => show n'.val - n'.val = 0; omega
    | ⟨1, _⟩ => rfl
    | ⟨2, _⟩ => rfl
    | ⟨3, _⟩ => rfl
  · have : n'.val ≠ n.val := fun h => hn (Fin.ext h)
    rw [dif_neg (by omega), if_neg hn]

variable (u0 : FVec Ideal S8192x1024 .f32) (w qd : FVec Ideal S8192x1024 .bf16) (kdt : FVec Ideal S128x1024x64 .bf16)
  (qk : FVec Ideal S8192x1024 .bf16) (e : FVec Ideal S128x8x128 .f32)

/-- What the loop's buffers hold before step `k`. -/
structure Holds (V : Valuation τ sig (Elt Ideal)) (k : ℕ) : Prop where
  state : V (Proc.devRef .tc main_v16_7) = states u0 w kdt e k
  done : ∀ n : Fin 128, n.val < k → ∀ h r j,
    V (Proc.devRef .tc main_v16_8) (ix4 n h r j) = read u0 w qd qk (states u0 w kdt e n.val) n h r j
  num : V (Proc.devRef .tc main_v16_6) = constantI S_ 32 (BitVec.ofNat 32 k)
  f0 : ∀ n h r j, V (Proc.devRef .tc main_v16_0) (ix4 n h r j) = u0 (ix2 (row n r) (lane h j))
  f1 : ∀ n h r j, V (Proc.devRef .tc main_v16_1) (ix4 n h r j) = w (ix2 (row n r) (lane h j))
  f2 : ∀ n h r j, V (Proc.devRef .tc main_v16_2) (ix4 n h r j) = qk (ix2 (row n r) (lane h (first j)))
  f3 : ∀ n h r j, V (Proc.devRef .tc main_v16_3) (ix4 n h r j) = qd (ix2 (row n r) (lane h j))
  f4 : ∀ n h i r, V (Proc.devRef .tc main_v16_4) (ix4 n h i r) = kdt (ix3 n (lane h i) r)
  f5 : ∀ n h j, V (Proc.devRef .tc main_v16_5) (ix3 n h j) = e (ix3 n h j)

variable {u0 w qd kdt qk e} {V : Valuation τ sig (Elt Ideal)} {n : Fin 128}

/-- Chunk `n` of an array of chunks, without its leading axis. -/
theorem chunk_at (x : Vec Ideal S128x8x64x128 .f32) (n : Fin 128) (hs) (hc) (h : Fin 8) (r : Fin 64) (k : Fin 128) :
    shapeCast S8x64x128 (Host.dynamicSlice S1x8x64x128 x (start4 n.val) hs) hc (ix3 h r k) = x (ix4 n h r k) := by
  have drop : ∀ y : Vec Ideal S1x8x64x128 .f32, shapeCast S8x64x128 y hc (ix3 h r k) = y (ix4 0 h r k) := fun y => by pointwise
  exact (drop _).trans (cut4 x n hs h r k)

theorem chunk_at_qk (x : Vec Ideal S128x8x64x64 .f32) (n : Fin 128) (hs) (hc) (h : Fin 8) (r k : Fin 64) :
    shapeCast S8x64x64 (Host.dynamicSlice S1x8x64x64 x (start4 n.val) hs) hc (ix3 h r k) = x (ix4 n h r k) := by
  have drop : ∀ y : Vec Ideal S1x8x64x64 .f32, shapeCast S8x64x64 y hc (ix3 h r k) = y (ix4 0 h r k) := fun y => by pointwise
  exact (drop _).trans (cut4 x n hs h r k)

theorem chunk_at_kd (x : Vec Ideal S128x8x128x64 .f32) (n : Fin 128) (hs) (hc) (h : Fin 8) (i : Fin 128) (r : Fin 64) :
    shapeCast S8x128x64 (Host.dynamicSlice S1x8x128x64 x (start4 n.val) hs) hc (ix3 h i r) = x (ix4 n h i r) := by
  have drop : ∀ y : Vec Ideal S1x8x128x64 .f32, shapeCast S8x128x64 y hc (ix3 h i r) = y (ix4 0 h i r) := fun y => by pointwise
  exact (drop _).trans (cut4 x n hs h i r)

theorem chunk_at_e (x : Vec Ideal S128x8x128 .f32) (n : Fin 128) (hs) (hc) (h : Fin 8) (j : Fin 128) :
    shapeCast S8x128 (Host.dynamicSlice S1x8x128 x (start3 n.val) hs) hc (ix2 h j) = x (ix3 n h j) := by
  have drop : ∀ y : Vec Ideal S1x8x128 .f32, shapeCast S8x128 y hc (ix2 h j) = y (ix3 0 h j) := fun y => by pointwise
  exact (drop _).trans (cut3 x n hs h j)

/-- The loop's correction, of the chunk's arrays. -/
theorem corr_form (a b : FVec Ideal S8x64x128 .f32) (S : FVec Ideal S8x128x128 .f32) (h : Fin 8) (r : Fin 64) (j : Fin 128) :
    subf a (Host.dotGeneral dot_S8x64x128_S8x128x128_S8x64x128_2_1_1_2_0_0 none b S) (ix3 h r j)
      = (a (ix3 h r j) - ∑ k : Fin 128, b (ix3 h r k) * S (ix3 h k j) : EReal) := by
  pointwise

/-- The loop's next state, of the chunk's arrays. -/
theorem next_form (e : FVec Ideal S8x128 .f32) (kd : FVec Ideal S8x128x64 .f32) (u : FVec Ideal S8x64x128 .f32)
    (S : FVec Ideal S8x128x128 .f32) (h : Fin 8) (i j : Fin 128) :
    addf (mulf (broadcastInDim S8x128x128 ![0, 1, 2] bcast_S8x1x128_S8x128x128_0_1_2
        (broadcastInDim S8x1x128 ![0, 2] bcast_S8x128_S8x1x128_0_2 e)) S)
      (Host.dotGeneral dot_S8x128x64_S8x64x128_S8x128x128_2_1_1_2_0_0 none kd u) (ix3 h i j)
      = (e (ix2 h j) * S (ix3 h i j) + ∑ r : Fin 64, kd (ix3 h i r) * u (ix3 h r j) : EReal) := by
  pointwise

/-- The loop's read, of the chunk's arrays. -/
theorem read_form (qd : FVec Ideal S8x64x128 .f32) (qk : FVec Ideal S8x64x64 .f32) (u : FVec Ideal S8x64x128 .f32)
    (S : FVec Ideal S8x128x128 .f32) (h : Fin 8) (r : Fin 64) (j : Fin 128) :
    broadcastInDim S1x8x64x128 ![1, 2, 3] bcast_S8x64x128_S1x8x64x128_1_2_3
      (addf (Host.dotGeneral dot_S8x64x128_S8x128x128_S8x64x128_2_1_1_2_0_0 none qd S)
        (Host.dotGeneral dot_S8x64x64_S8x64x128_S8x64x128_2_1_1_2_0_0 none qk u)) (ix4 0 h r j)
      = (∑ k : Fin 128, qd (ix3 h r k) * S (ix3 h k j) + ∑ r' : Fin 64, qk (ix3 h r r') * u (ix3 h r' j) : EReal) := by
  pointwise

/-- The corrected values of a step. -/
theorem corr_at (H : Holds u0 w qd kdt qk e V n.val) (h : Fin 8) (r : Fin 64) (j : Fin 128) :
    res_main_while0b_v50 V (ix3 h r j) = corr u0 w (states u0 w kdt e n.val) n h r j := by
  unfold res_main_while0b_v50
  rw [H.num, H.state]
  refine (corr_form _ _ _ h r j).trans ?_
  refine congrArg₂ (· - · : EReal → EReal → EReal) ((chunk_at _ n _ _ h r j).trans (H.f0 n h r j)) (Finset.sum_congr rfl fun k _ => ?_)
  exact congrArg (fun z : EReal => z * _) ((chunk_at _ n _ _ h r k).trans (H.f1 n h r k))

/-- The state after a step. -/
theorem state_at (H : Holds u0 w qd kdt qk e V n.val) : step_main_v16_7 V = states u0 w kdt e (n.val + 1) := by
  funext y
  obtain ⟨h, i, j, rfl⟩ : ∃ h i j, y = ix3 h i j := ⟨y 0, y 1, y 2, by funext a; match a with | ⟨0, _⟩ => rfl | ⟨1, _⟩ => rfl | ⟨2, _⟩ => rfl⟩
  have hn : (⟨n.val % 128, Nat.mod_lt _ (by decide)⟩ : Fin 128) = n := Fin.ext (Nat.mod_eq_of_lt n.isLt)
  rw [show states u0 w kdt e (n.val + 1) (ix3 h i j)
    = next u0 w kdt e (states u0 w kdt e n.val) ⟨n.val % 128, Nat.mod_lt _ (by decide)⟩ (ix3 h i j) from rfl, hn]
  unfold step_main_v16_7
  rw [H.num, H.state]
  refine (next_form _ _ _ _ h i j).trans ?_
  refine congrArg₂ (· + · : EReal → EReal → EReal)
    (congrArg (fun z : EReal => z * _) ((chunk_at_e _ n _ _ h j).trans (H.f5 n h j))) (Finset.sum_congr rfl fun r _ => ?_)
  exact congrArg₂ (· * · : EReal → EReal → EReal) ((chunk_at_kd _ n _ _ h i r).trans (H.f4 n h i r)) (corr_at H h r j)

/-- The outputs after a step. -/
theorem done_at (H : Holds u0 w qd kdt qk e V n.val) (n' : Fin 128) (hn' : n'.val < n.val + 1) (h : Fin 8) (r : Fin 64) (j : Fin 128) :
    step_main_v16_8 V (ix4 n' h r j) = read u0 w qd qk (states u0 w kdt e n'.val) n' h r j := by
  unfold step_main_v16_8
  rw [H.num, H.state]
  refine (put4 _ _ n n' _ h r j).trans ?_
  by_cases hn : n' = n
  · subst hn
    rw [if_pos rfl]
    refine (read_form _ _ _ _ h r j).trans ?_
    refine congrArg₂ (· + · : EReal → EReal → EReal) (Finset.sum_congr rfl fun k _ => ?_) (Finset.sum_congr rfl fun r' _ => ?_)
    · exact congrArg (fun z : EReal => z * _) ((chunk_at _ n' _ _ h r k).trans (H.f3 n' h r k))
    · exact congrArg₂ (· * · : EReal → EReal → EReal) ((chunk_at_qk _ n' _ _ h r r').trans (H.f2 n' h r r')) (corr_at H h r' j)
  · rw [if_neg hn]
    exact H.done n' (by have : n'.val ≠ n.val := fun h => hn (Fin.ext h); omega) h r j

/-- A step keeps what the buffers hold. -/
theorem holds_step (H : Holds u0 w qd kdt qk e V n.val) : Holds u0 w qd kdt qk e (STEP V) (n.val + 1) where
  state := (STEP_main_v16_7 V).trans (state_at H)
  done := fun n' hn' h r j => by rw [STEP_main_v16_8 V]; exact done_at H n' hn' h r j
  num := by
    rw [STEP_main_v16_6 V]
    unfold step_main_v16_6
    rw [H.num]
    funext i
    show BitVec.ofNat 32 n.val + 1#32 = BitVec.ofNat 32 (n.val + 1)
    rw [BitVec.ofNat_add]
  f0 := by rw [STEP_main_v16_0 V]; exact H.f0
  f1 := by rw [STEP_main_v16_1 V]; exact H.f1
  f2 := by rw [STEP_main_v16_2 V]; exact H.f2
  f3 := by rw [STEP_main_v16_3 V]; exact H.f3
  f4 := by rw [STEP_main_v16_4 V]; exact H.f4
  f5 := by rw [STEP_main_v16_5 V]; exact H.f5

end Cert.RecRefIdeal.Steps
-- ==== Proof.RecRefResult.lean ====
/-
  The reference's recurrence as a whole: what its buffers hold when the loop starts, after every step, and what the
  operations after the loop make of them.
-/
module

public import proofs.«01_k».proof.Proof.RecRef

@[expose] public section

set_option maxRecDepth 16384

noncomputable section

open Idealize.ShloMosaic Idealize.ShloMosaic.TcCoe Idealize.SL.Sem Idealize.ShloMosaic.StableHlo

namespace Cert.RecRefIdeal.Result

open Cert.RecRefIdeal Cert.RecRefIdeal.Gen Cert.RecRefIdeal.Value Cert.Recurrence Cert.RecRefIdeal.Steps

/-! Where rows and lanes lie. -/

theorem row_eq (n : Fin 128) (r : Fin 64) (p) : (⟨n.val * 64 + r.val, p⟩ : Fin 8192) = row n r :=
  Fin.ext (by show n.val * 64 + r.val = 64 * n.val + r.val; omega)

theorem lane_eq (h : Fin 8) (j : Fin 128) (p) : (⟨h.val * 128 + j.val, p⟩ : Fin 1024) = lane h j :=
  Fin.ext (by show h.val * 128 + j.val = 128 * h.val + j.val; omega)

theorem row_div (n : Fin 128) (r : Fin 64) (p) : (⟨(row n r).val / 64, p⟩ : Fin 128) = n :=
  Fin.ext (by have := r.isLt; show (64 * n.val + r.val) / 64 = n.val; omega)

theorem row_mod (n : Fin 128) (r : Fin 64) (p) : (⟨(row n r).val % 64, p⟩ : Fin 64) = r :=
  Fin.ext (by have := r.isLt; show (64 * n.val + r.val) % 64 = r.val; omega)

theorem lane_div (h : Fin 8) (j : Fin 128) (p) : (⟨(lane h j).val / 128, p⟩ : Fin 8) = h :=
  Fin.ext (by have := j.isLt; show (128 * h.val + j.val) / 128 = h.val; omega)

theorem lane_mod (h : Fin 8) (j : Fin 128) (p) : (⟨(lane h j).val % 128, p⟩ : Fin 128) = j :=
  Fin.ext (by have := j.isLt; show (128 * h.val + j.val) % 128 = j.val; omega)

/-- An array of rows, cut into chunks and heads. -/
theorem cut_rows (x : FVec Ideal S8192x1024 .f32) (hc) (ht) (n : Fin 128) (h : Fin 8) (r : Fin 64) (j : Fin 128) :
    transpose S128x8x64x128 [0, 2, 1, 3] (shapeCast S128x64x8x128 x hc) ht (ix4 n h r j) = x (ix2 (row n r) (lane h j)) := by
  pointwise
  exact congrArg x (by rw [row_eq, lane_eq])

/-- The same, of which the first 64 lanes of each head are kept. -/
theorem cut_first (x : FVec Ideal S8192x1024 .f32) (hc) (ht) (hs) (n : Fin 128) (h : Fin 8) (r j : Fin 64) :
    extractStridedSlice S128x8x64x64 ![0, 0, 0, 0]
      (transpose S128x8x64x128 [0, 2, 1, 3] (shapeCast S128x64x8x128 x hc) ht) hs (ix4 n h r j) = x (ix2 (row n r) (lane h (first j))) := by
  pointwise
  exact congrArg x (by rw [row_eq]; exact congrArg (ix2 (row n r)) (lane_eq h (first j) _))

/-- An array of lanes, cut into heads. -/
theorem cut_lanes (x : FVec Ideal S128x1024x64 .f32) (hc) (n : Fin 128) (h : Fin 8) (i : Fin 128) (r : Fin 64) :
    shapeCast S128x8x128x64 x hc (ix4 n h i r) = x (ix3 n (lane h i) r) := by
  pointwise
  exact congrArg x (by rw [lane_eq])

variable (m : (ℓ : Loc nD τ sig) → Buf (Elt Ideal) ℓ) (c : Dev nD)

set_option maxRecDepth 65536 in
set_option maxHeartbeats 400000 in
/-- What the buffers hold when the loop starts. -/
theorem entry : Holds (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (entryContents preI m c) 0 := by
  constructor
  case done => intro n hn; exact absurd hn (Nat.not_lt_zero _)
  all_goals (simp only [entryContents, afterL_cons, afterL_nil]; after_reads_simp)
  case state => funext y; exact Ideal.ofBits_zero_f32
  case num => rfl
  case f0 => intro n h r j; exact cut_rows _ _ _ n h r j
  case f1 => intro n h r j; exact cut_rows _ _ _ n h r j
  case f2 => intro n h r j; exact cut_first _ _ _ _ n h r j
  case f3 => intro n h r j; exact cut_rows _ _ _ n h r j
  case f4 => intro n h i r; exact cut_lanes _ _ n h i r
  case f5 => intro n h j; rfl

/-- What the buffers hold before every step. -/
theorem holds : ∀ k, k ≤ 128 → Holds (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (STEP^[k] (entryContents preI m c)) k
  | 0, _ => entry m c
  | k + 1, hk => by
    rw [Function.iterate_succ_apply']
    exact holds_step (n := ⟨k, hk⟩) (holds k (by omega))

/-- What the operations after the loop make, at a row of a chunk and a lane of a head. -/
theorem out_at (V : Valuation τ sig (Elt Ideal)) (n : Fin 128) (h : Fin 8) (r : Fin 64) (j : Fin 128) :
    out_main_v42 V (ix2 (row n r) (lane h j))
      = gated (fun l => V (Proc.devRef .tc main_v16_8) (ix4 n h r l)) (V (Proc.devRef .tc main_arg7) (ix1 j))
          (V (Proc.devRef .tc main_arg6) (ix2 (row n r) (gateLane h j))) j := by
  pointwise [out_main_v42]
  simp only [row_div, row_mod, lane_div, lane_mod]
  rfl

/-- The rule's result, at a row of a chunk and a lane of a head. -/
theorem result_at (u0 : FVec Ideal S8192x1024 .f32) (w qd : FVec Ideal S8192x1024 .bf16) (kdt : FVec Ideal S128x1024x64 .bf16)
    (qk : FVec Ideal S8192x1024 .bf16) (e : FVec Ideal S128x8x128 .f32) (proj : FVec Ideal S8192x23808 .f32) (og : FVec Ideal S128 .f32)
    (n : Fin 128) (h : Fin 8) (r : Fin 64) (j : Fin 128) :
    result u0 w qd kdt qk e proj og (ix2 (row n r) (lane h j)) = rows u0 w qd qk proj og (states u0 w kdt e n.val) n h r j := by
  have hn : (row n r).val / 64 = n.val := by have := r.isLt; show (64 * n.val + r.val) / 64 = n.val; omega
  have same : ∀ (a b : ℕ) (n' : Fin 128) (h' : Fin 8) (r' : Fin 64) (j' : Fin 128), a = b → n' = n → h' = h → r' = r → j' = j →
      rows u0 w qd qk proj og (states u0 w kdt e a) n' h' r' j' = rows u0 w qd qk proj og (states u0 w kdt e b) n h r j := by
    rintro a b n' h' r' j' rfl rfl rfl rfl rfl; rfl
  exact same _ _ _ _ _ _ hn (row_div n r _) (lane_div h j _) (row_mod n r _) (lane_mod h j _)

/-- The reference's first result is the rule's. -/
theorem final_rows : out_main_v42 (STEP^[128] (entryContents preI m c))
    = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  funext y
  have h0 : (y 0).val < 8192 := (y 0).isLt
  have h1 : (y 1).val < 1024 := (y 1).isLt
  have hy : y = ix2 (row ⟨(y 0).val / 64, by omega⟩ ⟨(y 0).val % 64, Nat.mod_lt _ (by decide)⟩)
      (lane ⟨(y 1).val / 128, by omega⟩ ⟨(y 1).val % 128, Nat.mod_lt _ (by decide)⟩) := by
    funext a
    match a with
    | ⟨0, _⟩ => exact Fin.ext (Nat.div_add_mod _ _).symm
    | ⟨1, _⟩ => exact Fin.ext (Nat.div_add_mod _ _).symm
  rw [hy, out_at, result_at, iter_main_arg6, iter_main_arg7]
  have H := holds m c 128 (Nat.le_refl _)
  simp only [H.done _ (Fin.isLt _)]
  rfl

/-- The reference's second result is the state after the last chunk. -/
theorem final_state : (STEP^[128] (entryContents preI m c)) (Proc.devRef .tc main_v16_7)
    = states (m ((c.tc : Thread nD τ).loc main_arg0)) (m ((c.tc : Thread nD τ).loc main_arg1))
        (m ((c.tc : Thread nD τ).loc main_arg3)) (m ((c.tc : Thread nD τ).loc main_arg5)) 128 :=
  (holds m c 128 (Nat.le_refl _)).state

end Cert.RecRefIdeal.Result
-- ==== Proof.ProjValue.lean ====
/-
  The input projection, from its grid run to the reference's array.

  The kernel walks 8 row blocks of 1024 rows, and for each of them 31 blocks of 768 columns. At a row block's first column
  block it normalises its 1024 rows into scratch; at every column block it multiplies the scratch by a block of the
  weight, whose columns were put into the result's order. `held` says what the scratch holds, `point` what one grid point
  stores, and `final` that the result array is the reference's.
-/
module

public import proofs.«01_k».proof.Proof.Gen.ProjIdeal.Frame
public import proofs.«01_k».proof.Proof.Gen.ProjRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Projection

open Cert.ProjIdeal Cert.ProjIdeal.Gen

variable (m : (ℓ : Loc nD τ sig) → Buf (Elt Ideal) ℓ)

/-- A row of `x`, normalised. -/
def normed (x : FVec Ideal S8192x2048 .f32) (g : FVec Ideal S2048 .f32) : FVec Ideal S8192x2048 .f32 := fun y =>
  (x y * Ideal.rsqrt (Ideal.div (∑ l : Fin 2048, x (ix2 (y 0) l) * x (ix2 (y 0) l)) (Ideal.ofBits .f32 0x45000000#32)
    + Ideal.ofBits .f32 0x358637BD#32) * g (ix1 (y 1)) : EReal)

theorem normed_at (x : FVec Ideal S8192x2048 .f32) (g : FVec Ideal S2048 .f32) (a : Fin 8192) (k : Fin 2048) :
    normed x g (ix2 a k) = (x (ix2 a k) * Ideal.rsqrt (Ideal.div (∑ l : Fin 2048, x (ix2 a l) * x (ix2 a l))
      (Ideal.ofBits .f32 0x45000000#32) + Ideal.ofBits .f32 0x358637BD#32) * g (ix1 k) : EReal) := rfl

/-- The weight's column that column `j` of the result is the product with; past the weight's columns there is none. -/
def source (j : Fin 23808) : Option (Fin 23568) :=
  if h : j.val < 17408 then some ⟨j.val, by omega⟩
  else if h' : j.val < 23552 then some ⟨j.val + 16, by omega⟩
  else if h'' : j.val < 23568 then some ⟨j.val - 6144, by omega⟩ else none

/-- The reference's array: the normalised rows times the weight, its columns in the result's order, and zeros. -/
def target (x : FVec Ideal S8192x2048 .f32) (g : FVec Ideal S2048 .f32) (w : FVec Ideal S2048x23568 .f32) :
    FVec Ideal S8192x23808 .f32 := fun y =>
  match source (y 1) with
  | some q => (∑ k : Fin 2048, normed x g (ix2 (y 0) k) * w (ix2 k q) : EReal)
  | none => (0 : EReal)

/-- The weight that the kernel is given: its columns in the result's order, and zeros. -/
def weight (w : FVec Ideal S2048x23568 .f32) : FVec Ideal S2048x23808 .bf16 := fun y =>
  match source (y 1) with
  | some q => w (ix2 (y 0) q)
  | none => (0 : EReal)

/-- The block index of every window at every grid point. -/
theorem idx : ∀ t : Fin cfg0.N, win0_0.index t = ![t.val / 31, 0] ∧ win0_1.index t = ![0, 0] ∧ win0_2.index t = ![0, t.val % 31]
    ∧ win0_3.index t = ![t.val / 31, t.val % 31] :=
  (by decide +kernel : ∀ t : Fin grid0.N, _)

/-- The host's arrangement of the weight's columns. -/
theorem weight_form (w : FVec Ideal S2048x23568 .f32) : (truncf .bf16 (concatenate S2048x23808 1
    [⟨S2048x17408, extractStridedSlice S2048x17408 ![0, 0] w slices_S2048x23568_S2048x17408_0_0⟩,
     ⟨S2048x6144, extractStridedSlice S2048x6144 ![0, 17424] w slices_S2048x23568_S2048x6144_0_17424⟩,
     ⟨S2048x16, extractStridedSlice S2048x16 ![0, 17408] w slices_S2048x23568_S2048x16_0_17408⟩,
     ⟨S2048x240, broadcastInDim S2048x240 ![] bcast_S_S2048x240 (constant S_ .f32 0x00000000#32)⟩]
    concatenates_S2048x17408_S2048x6144_S2048x16_S2048x240_S2048x23808_d1) bitsLt_bf16_f32 : FVec Ideal S2048x23808 .bf16) = weight w := by
  funext y
  have h1 : (y 1).val < 23808 := (y 1).isLt
  pointwise [weight, source]
  by_cases a : (y 1).val < 17408
  · rw [dif_pos a, dif_pos a]
  · rw [dif_neg a, dif_neg a]
    by_cases b : (y 1).val < 23552
    · rw [dif_pos (by omega), dif_pos b]
      exact congrArg (fun q => w (ix2 (y 0) q)) (Fin.ext (by show 17424 + ((y 1).val - 17408) = (y 1).val + 16; omega))
    · rw [dif_neg (by omega), dif_neg b]
      by_cases d : (y 1).val < 23568
      · rw [dif_pos (by omega), dif_pos d]
        exact congrArg (fun q => w (ix2 (y 0) q)) (Fin.ext (by show 17408 + ((y 1).val - 17408 - 6144) = (y 1).val - 6144; omega))
      · rw [dif_neg (by omega), dif_neg d]

set_option maxHeartbeats 800000 in
/-- The weight at the kernel's call. -/
theorem weight_entry (c : Dev nD) : V m c main_v5 = weight (m ((c : Thread nD τ).loc main_arg2)) := by
  refine Eq.trans ?_ (weight_form _)
  show StableHlo.after hostOps0 _ _ = _
  after_results <;> rfl

/-- What the scratch holds after the first column block of a row block: the rows, normalised. -/
theorem scratch_first (c : Dev nD) (t : Fin cfg0.N) (h : t.val % 31 = 0) :
    (outsAt0 m c t.val t.isLt).2 = k0_pay1 (iblk m c 0 t) (iblk m c 1 t) := by
  rw [outsAt0_A m c t h]; frame_out

/-- At every grid point the scratch holds the rows staged at its row block's first column block. -/
theorem held (c : Dev nD) (t : Fin cfg0.N) :
    (outsAt0 m c t.val t.isLt).2
      = k0_pay1 (iblk m c 0 ⟨31 * (t.val / 31), Pipeline.run_start_lt t⟩) (iblk m c 1 ⟨31 * (t.val / 31), Pipeline.run_start_lt t⟩) := by
  refine Pipeline.eq_of_write_hold (fun n h => (outsAt0 m c n h).2) 31 (fun t => k0_pay1 (iblk m c 0 t) (iblk m c 1 t))
    (fun t h => scratch_first m c t h) (fun t h => ?_) t
  show (outsAt0 m c t.val t.isLt).2 = _
  rw [outsAt0_B m c t h]; rfl

/-- The reference's array as one product with the arranged weight. -/
theorem target_eq (x : FVec Ideal S8192x2048 .f32) (g : FVec Ideal S2048 .f32) (w : FVec Ideal S2048x23568 .f32)
    (a : Fin 8192) (b : Fin 23808) :
    target x g w (ix2 a b) = (∑ k : Fin 2048, normed x g (ix2 a k) * weight w (ix2 k b) : EReal) := by
  show (match source b with
    | some q => (∑ k : Fin 2048, normed x g (ix2 a k) * w (ix2 k q) : EReal)
    | none => (0 : EReal)) = ∑ k : Fin 2048, normed x g (ix2 a k) * (match source b with
    | some q => w (ix2 k q)
    | none => (0 : EReal))
  cases source b with
  | some q => rfl
  | none => exact (Finset.sum_eq_zero fun k _ => mul_zero _).symm

/-- A row of a row block. -/
def blockRow (t : Fin cfg0.N) (a : Fin 1024) : Fin 8192 :=
  ⟨1024 * (t.val / 31) + a.val, by have := t.isLt; have : t.val < 248 := this; have := a.isLt; omega⟩

/-- A column of a column block. -/
def blockCol (t : Fin cfg0.N) (b : Fin 768) : Fin 23808 :=
  ⟨768 * (t.val % 31) + b.val, by have := b.isLt; omega⟩

theorem rows_at (c : Dev nD) (t : Fin cfg0.N) (a : Fin 1024) (k : Fin 2048) :
    iblk m c 0 ⟨31 * (t.val / 31), Pipeline.run_start_lt t⟩ (ix2 a k)
      = m ((c : Thread nD τ).loc main_arg0) (ix2 (blockRow t a) k) := by
  blk_point [iblk, V, idx ⟨31 * (t.val / 31), Pipeline.run_start_lt t⟩]
  all_goals (simp only [blockRow] <;> omega)

theorem gain_at (c : Dev nD) (t : Fin cfg0.N) (k : Fin 2048) :
    iblk m c 1 t (ix2 0 k) = m ((c : Thread nD τ).loc main_arg1) (ix1 k) := by
  have e : V m c main_v6 = shapeCast S1x2048 (m ((c : Thread nD τ).loc main_arg1)) shapeCasts_S2048_S1x2048 := by
    show StableHlo.after hostOps0 _ _ = _
    after_results <;> rfl
  refine Eq.trans (b := shapeCast S1x2048 (m ((c : Thread nD τ).loc main_arg1)) shapeCasts_S2048_S1x2048 (ix2 0 k)) ?_ ?_
  · rw [← e]
    blk_ext [iblk, idx t]
  · pointwise

theorem weight_at (c : Dev nD) (t : Fin cfg0.N) (k : Fin 2048) (b : Fin 768) :
    iblk m c 2 t (ix2 k b) = weight (m ((c : Thread nD τ).loc main_arg2)) (ix2 k (blockCol t b)) := by
  rw [← weight_entry]
  blk_ext [iblk, idx t]
  all_goals (simp only [blockRow, blockCol] <;> omega)

theorem place (t : Fin cfg0.N) (a : Fin 1024) (b : Fin 768) :
    ((cfg0.win 3).blk t).view.emb (ix2 a b) = ix2 (blockRow t a) (blockCol t b) := by
  blk_ext [idx t]
  all_goals (simp only [blockRow, blockCol] <;> omega)

/-- What a grid point stores is the reference's array over the point's block. -/
theorem point (c : Dev nD) (t : Fin cfg0.N) (y : S1024x768.Idx) :
    k0_pay2 (outsAt0 m c t.val t.isLt).2 (iblk m c 2 t) y
      = target (m ((c : Thread nD τ).loc main_arg0)) (m ((c : Thread nD τ).loc main_arg1))
          (m ((c : Thread nD τ).loc main_arg2)) (((cfg0.win 3).blk t).view.emb y) := by
  obtain ⟨a, b, rfl⟩ : ∃ a b, y = ix2 a b := ⟨y 0, y 1, by funext q; match q with | ⟨0, _⟩ => rfl | ⟨1, _⟩ => rfl⟩
  rw [held]
  refine Eq.trans ?_ ((congrArg _ (place t a b)).trans (target_eq _ _ _ _ _)).symm
  pointwise [k0_pay2, k0_pay1]
  refine Finset.sum_congr rfl fun k _ => ?_
  rw [weight_at, gain_at, normed_at]
  simp only [rows_at]

/-- The result array after the run. -/
theorem final (c : Dev nD) : (dats m 0 c).arrAt 3 cfg0.N
    = target (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, ← point m c t y]
  by_cases h : t.val % 31 = 0
  · rw [outsAt0_A m c t h]
    frame_out
  · rw [outsAt0_B m c t h]
    have hs : sout0_B_0 c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) (iblk m c 0 t) (iblk m c 1 t) (iblk m c 2 t) (outsAt0 m c (t.val - 1) (Nat.lt_of_le_of_lt (Nat.sub_le _ _) t.isLt)).2 = (outsAt0 m c (t.val - 1) (Nat.lt_of_le_of_lt (Nat.sub_le _ _) t.isLt)).2 := rfl
    rw [hs]
    frame_out
    simp only [read_unread_whole]

/-- The reference's text is the array above. -/
theorem reference_eq (x : FVec Ideal S8192x2048 .f32) (g : FVec Ideal S2048 .f32) (w : FVec Ideal S2048x23568 .f32) :
    Cert.ProjRefIdeal.Read.val_main_v18 (F := Ideal) x g w = target x g w := by
  rw [← Cert.ProjRefIdeal.Read.val_main_v18_eq]
  funext y
  obtain ⟨a, b, rfl⟩ : ∃ a b, y = ix2 a b := ⟨y 0, y 1, by funext q; match q with | ⟨0, _⟩ => rfl | ⟨1, _⟩ => rfl⟩
  have h1 : b.val < 23808 := b.isLt
  have some_of : ∀ q, source b = some q → target x g w (ix2 a b) = (∑ k : Fin 2048, normed x g (ix2 a k) * w (ix2 k q) : EReal) :=
    fun q hq => by
      show (match source b with
        | some q => (∑ k : Fin 2048, normed x g (ix2 a k) * w (ix2 k q) : EReal)
        | none => (0 : EReal)) = _
      rw [hq]
  have none_of : source b = none → target x g w (ix2 a b) = (0 : EReal) := fun hq => by
    show (match source b with
      | some q => (∑ k : Fin 2048, normed x g (ix2 a k) * w (ix2 k q) : EReal)
      | none => (0 : EReal)) = _
    rw [hq]
  pointwise
  by_cases h : b.val < 17408
  · rw [dif_pos h, some_of _ (dif_pos h)]; rfl
  · rw [dif_neg h]
    by_cases h' : b.val < 23552
    · have e : (⟨17424 + (b.val - 17408), by omega⟩ : Fin 23568) = ⟨b.val + 16, by omega⟩ := Fin.ext (by show 17424 + (b.val - 17408) = b.val + 16; omega)
      rw [dif_pos (by omega), some_of _ ((dif_neg h).trans (dif_pos h')), e]; rfl
    · rw [dif_neg (by omega)]
      by_cases h'' : b.val < 23568
      · have e : (⟨17408 + (b.val - 17408 - 6144), by omega⟩ : Fin 23568) = ⟨b.val - 6144, by omega⟩ := Fin.ext (by show 17408 + (b.val - 17408 - 6144) = b.val - 6144; omega)
        rw [dif_pos (by omega), some_of _ ((dif_neg h).trans ((dif_neg h').trans (dif_pos h''))), e]; rfl
      · rw [dif_neg (by omega), none_of ((dif_neg h).trans ((dif_neg h').trans (dif_neg h'')))]

/-- What the host lines after the kernel leave in the second result: the last rows' columns, cut out of the result array. -/
theorem tail_slice (c : Dev nD) : Pipeline.afterTail₀ cfgs (dats m) 0 (V0 m) [hostOps1] c main_v8
    = extractStridedSlice S3x3072 ![8189, 13312] ((dats m 0 c).arrAt 3 cfg0.N) slices_S8192x23808_S3x3072_8189_13312 := by
  show StableHlo.after hostOps1 _ _ = _
  after_results
  exact congrArg (fun A => extractStridedSlice S3x3072 ![8189, 13312] A slices_S8192x23808_S3x3072_8189_13312)
    (Pipeline.withArrays_arr (cfgs 0).spec (by decide +kernel) c (V0 m c) (fun w => (dats m 0 c).arrAt w (cfgs 0).N) 3)

/-- The reference's second result is the same cut of its product. -/
theorem reference_tail (x : FVec Ideal S8192x2048 .f32) (g : FVec Ideal S2048 .f32) (w : FVec Ideal S2048x23568 .f32) :
    Cert.ProjRefIdeal.Read.val_main_v19 (F := Ideal) x g w
      = extractStridedSlice S3x3072 ![8189, 13312] (target x g w) slices_S8192x23808_S3x3072_8189_13312 := by
  rw [← Cert.ProjRefIdeal.Read.val_main_v19_eq]
  funext y
  obtain ⟨a, b, rfl⟩ : ∃ a b, y = ix2 a b := ⟨y 0, y 1, by funext q; match q with | ⟨0, _⟩ => rfl | ⟨1, _⟩ => rfl⟩
  have hb : b.val < 3072 := b.isLt
  have ha : a.val < 3 := a.isLt
  have e : source ⟨13312 + b.val, by omega⟩ = some ⟨13312 + b.val, by omega⟩ :=
    dif_pos (show 13312 + b.val < 17408 by omega)
  pointwise
  show _ = (match source ⟨13312 + b.val, by omega⟩ with
    | some q => (∑ k : Fin 2048, normed x g (ix2 ⟨8189 + a.val, by omega⟩ k) * w (ix2 k q) : EReal)
    | none => (0 : EReal))
  rw [e]
  rfl

end Cert.ProjIdeal.Projection
-- ==== Proof.MergeValue.lean ====
/-
  The branch projections and their gated merge, from the grid run to the reference's array.

  The kernel walks 16 row blocks of 512 rows, and for each of them 4 blocks of 512 columns. At a row block's first column
  block it copies the rows of the three branches into the three slabs of its scratch; at every column block it multiplies
  each slab by its third of the weight's rows, weighs the product with the branch's gate, and adds the three. `held` says
  what the scratch holds, `point` what one grid point stores, and `final` that the result array is the reference's.
-/
module

public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

variable (m : (ℓ : Loc nD τ sig) → Buf (Elt Ideal) ℓ)

/-- Row `k` of the weight's third number `b`. -/
def part (b : Fin 3) (k : Fin 1024) : Fin 3072 := ⟨1024 * b.val + k.val, by have := b.isLt; have := k.isLt; omega⟩

/-- The column of branch `b`'s gate for column `j` of the result. -/
def gateCol (b : Fin 3) (j : Fin 2048) : Fin 23808 :=
  ⟨17408 + 2048 * b.val + j.val, by have := b.isLt; have := j.isLt; omega⟩

/-- One branch's share of the result: its gate times the product of its rows with its third of the weight. -/
def share (y : FVec Ideal S8192x1024 .f32) (p : FVec Ideal S8192x23808 .f32) (w : FVec Ideal S3072x2048 .f32) (b : Fin 3)
    (r : Fin 8192) (j : Fin 2048) : EReal :=
  Ideal.logistic (p (ix2 r (gateCol b j))) * ∑ k : Fin 1024, y (ix2 r k) * w (ix2 (part b k) j)

/-- The reference's array: the sum of the three shares. -/
def target (ya yb yc : FVec Ideal S8192x1024 .f32) (p : FVec Ideal S8192x23808 .f32) (w : FVec Ideal S3072x2048 .f32) :
    FVec Ideal S8192x2048 .f32 := fun y =>
  (share ya p w 0 (y 0) (y 1) + share yb p w 1 (y 0) (y 1) + share yc p w 2 (y 0) (y 1) : EReal)

/-- The block index of every window at every grid point. -/
theorem idx : ∀ t : Fin cfg0.N, win0_0.index t = ![t.val / 4, 0] ∧ win0_1.index t = ![t.val / 4, 0] ∧ win0_2.index t = ![t.val / 4, 0]
    ∧ win0_3.index t = ![t.val / 4, 34 + t.val % 4] ∧ win0_4.index t = ![t.val / 4, 38 + t.val % 4]
    ∧ win0_5.index t = ![t.val / 4, 42 + t.val % 4] ∧ win0_6.index t = ![0, t.val % 4] ∧ win0_7.index t = ![t.val / 4, t.val % 4] :=
  (by decide +kernel : ∀ t : Fin grid0.N, _)

theorem slab_inb (b : Fin 3) : ∀ a, (![b.val, 0, 0] : Fin 3 → ℕ) a + S1x512x1024.size a ≤ S3x512x1024.size a := by
  have := b.isLt
  intro a
  match a with
  | ⟨0, _⟩ => show b.val + 1 ≤ 3; omega
  | ⟨1, _⟩ => exact Nat.le_refl _
  | ⟨2, _⟩ => exact Nat.le_refl _

theorem part_inb (b : Fin 3) : ∀ a, (![1024 * b.val, 0] : Fin 2 → ℕ) a + S1024x512.size a ≤ S3072x512.size a := by
  have := b.isLt
  intro a
  match a with
  | ⟨0, _⟩ => show 1024 * b.val + 1024 ≤ 3072; omega
  | ⟨1, _⟩ => exact Nat.le_refl _

/-- What the scratch holds of three blocks of rows: one slab each. -/
def staged (x0 x1 x2 : Vec Ideal S512x1024 .f32) : Vec Ideal S3x512x1024 .bf16 := fun y =>
  if (y 0).val = 0 then x0 (ix2 (y 1) (y 2)) else if (y 0).val = 1 then x1 (ix2 (y 1) (y 2)) else x2 (ix2 (y 1) (y 2))

/-- The block that a grid point stores, of the gates' blocks, the weight's block and the scratch. -/
def value (g0 g1 g2 : Vec Ideal S512x512 .f32) (w : Vec Ideal S3072x512 .bf16) (xs : Vec Ideal S3x512x1024 .bf16) :
    FVec Ideal S512x512 .f32 :=
  k0_pay4 g0 (View.ld xs (Rect.unit (s := S3x512x1024) ![0, 0, 0] S1x512x1024.size (slab_inb 0))) (View.ld w (Rect.unit (s := S3072x512) ![0, 0] S1024x512.size (part_inb 0)))
    g1 (View.ld xs (Rect.unit (s := S3x512x1024) ![1, 0, 0] S1x512x1024.size (slab_inb 1))) (View.ld w (Rect.unit (s := S3072x512) ![1024, 0] S1024x512.size (part_inb 1)))
    g2 (View.ld xs (Rect.unit (s := S3x512x1024) ![2, 0, 0] S1x512x1024.size (slab_inb 2))) (View.ld w (Rect.unit (s := S3072x512) ![2048, 0] S1024x512.size (part_inb 2)))

/-- An index whose leading coordinate is `b` lies in slab `b`. -/
theorem slab_mem (b : ℕ) (y : S3x512x1024.Idx) (e : (y 0).val = b)
    (inb : ∀ a, (![b, 0, 0] : Fin 3 → ℕ) a + S1x512x1024.size a ≤ S3x512x1024.size a) :
    y ∈ (Rect.unit (s := S3x512x1024) ![b, 0, 0] S1x512x1024.size inb).set := by
  refine Rect.mem_set_unit.mpr fun a => ?_
  match a with
  | ⟨0, _⟩ => show b ≤ (y 0).val ∧ (y 0).val < b + 1; omega
  | ⟨1, _⟩ => have : (y 1).val < 512 := (y 1).isLt; show 0 ≤ (y 1).val ∧ (y 1).val < 0 + 512; omega
  | ⟨2, _⟩ => have : (y 2).val < 1024 := (y 2).isLt; show 0 ≤ (y 2).val ∧ (y 2).val < 0 + 1024; omega

/-! The three slabs of the scratch. -/

theorem slab_0 (x0 x1 x2 : Vec Ideal S512x1024 .f32) :
    View.ld (staged x0 x1 x2) (Rect.unit (s := S3x512x1024) ![0, 0, 0] S1x512x1024.size (slab_inb 0)) = k0_pay1 x0 := by
  funext y
  obtain ⟨z, a, k, rfl⟩ : ∃ z a k, y = ix3 z a k := ⟨y 0, y 1, y 2, by funext q; match q with | ⟨0, _⟩ => rfl | ⟨1, _⟩ => rfl | ⟨2, _⟩ => rfl⟩
  pointwise [k0_pay1, staged]

theorem slab_1 (x0 x1 x2 : Vec Ideal S512x1024 .f32) :
    View.ld (staged x0 x1 x2) (Rect.unit (s := S3x512x1024) ![1, 0, 0] S1x512x1024.size (slab_inb 1)) = k0_pay2 x1 := by
  funext y
  obtain ⟨z, a, k, rfl⟩ : ∃ z a k, y = ix3 z a k := ⟨y 0, y 1, y 2, by funext q; match q with | ⟨0, _⟩ => rfl | ⟨1, _⟩ => rfl | ⟨2, _⟩ => rfl⟩
  pointwise [k0_pay2, staged]

theorem slab_2 (x0 x1 x2 : Vec Ideal S512x1024 .f32) :
    View.ld (staged x0 x1 x2) (Rect.unit (s := S3x512x1024) ![2, 0, 0] S1x512x1024.size (slab_inb 2)) = k0_pay3 x2 := by
  funext y
  obtain ⟨z, a, k, rfl⟩ : ∃ z a k, y = ix3 z a k := ⟨y 0, y 1, y 2, by funext q; match q with | ⟨0, _⟩ => rfl | ⟨1, _⟩ => rfl | ⟨2, _⟩ => rfl⟩
  pointwise [k0_pay3, staged]

set_option maxHeartbeats 1000000 in
/-- What the scratch holds after the first column block of a row block. -/
theorem scratch_first (c : Dev nD) (t : Fin cfg0.N) (h : t.val % 4 = 0) :
    (outsAt0 m c t.val t.isLt).2 = staged (iblk m c 0 t) (iblk m c 1 t) (iblk m c 2 t) := by
  rw [outsAt0_A m c t h]
  dsimp only
  frame_open
  frame_out
  generalize iblk m c 0 t = x0
  generalize iblk m c 1 t = x1
  generalize iblk m c 2 t = x2
  funext y
  have at_slab : ∀ (b : Fin 3) (x : S1x512x1024.Idx), (![k0_pay1 x0, k0_pay2 x1, k0_pay3 x2] : Fin 3 → FVec Ideal S1x512x1024 .bf16) b x
      = staged x0 x1 x2 ((Rect.unit (s := S3x512x1024) ![b.val, 0, 0] S1x512x1024.size (slab_inb b)).emb x) := fun b x => by
    match b with
    | ⟨0, _⟩ => exact (congrFun (slab_0 x0 x1 x2) x).symm
    | ⟨1, _⟩ => exact (congrFun (slab_1 x0 x1 x2) x).symm
    | ⟨2, _⟩ => exact (congrFun (slab_2 x0 x1 x2) x).symm
  refine View.canon_append_of_piecesOf (staged x0 x1 x2) [] [_, _, _] ⟨at_slab 2, at_slab 1, at_slab 0, trivial⟩ y ?_
  have hy : (y 0).val < 3 := (y 0).isLt
  rcases (by omega : (y 0).val = 2 ∨ (y 0).val = 1 ∨ (y 0).val = 0) with e | e | e
  · exact ⟨_, .head _, slab_mem 2 y e (slab_inb 2)⟩
  · exact ⟨_, .tail _ (.head _), slab_mem 1 y e (slab_inb 1)⟩
  · exact ⟨_, .tail _ (.tail _ (.head _)), slab_mem 0 y e (slab_inb 0)⟩

/-- At every grid point the scratch holds the rows staged at its row block's first column block. -/
theorem held (c : Dev nD) (t : Fin cfg0.N) :
    (outsAt0 m c t.val t.isLt).2
      = staged (iblk m c 0 ⟨4 * (t.val / 4), Pipeline.run_start_lt t⟩) (iblk m c 1 ⟨4 * (t.val / 4), Pipeline.run_start_lt t⟩)
          (iblk m c 2 ⟨4 * (t.val / 4), Pipeline.run_start_lt t⟩) := by
  refine Pipeline.eq_of_write_hold (fun n h => (outsAt0 m c n h).2) 4 (fun t => staged (iblk m c 0 t) (iblk m c 1 t) (iblk m c 2 t))
    (fun t h => scratch_first m c t h) (fun t h => ?_) t
  show (outsAt0 m c t.val t.isLt).2 = _
  rw [outsAt0_B m c t h]; rfl

set_option maxHeartbeats 1000000 in
/-- What a row block's first point stores. -/
theorem stored_A (c : Dev nD) (t : Fin cfg0.N) (h : t.val % 4 = 0) :
    (outsAt0 m c t.val t.isLt).1 = value (X0_3 m c t) (X0_4 m c t) (X0_5 m c t) (iblk m c 6 t)
      (staged (iblk m c 0 t) (iblk m c 1 t) (iblk m c 2 t)) := by
  rw [outsAt0_A m c t h]
  dsimp only
  frame_open
  simp (disch := decide) only [↓ View.readCov_skip, ↓ View.readCov_cons_toLoadRect, ↓ View.readCov_fill]
  frame_out
  unfold value
  rw [slab_0, slab_1, slab_2]

set_option maxHeartbeats 1000000 in
/-- What a later point stores. -/
theorem stored_B (c : Dev nD) (t : Fin cfg0.N) (h : ¬ t.val % 4 = 0) :
    (outsAt0 m c t.val t.isLt).1 = value (X0_3 m c t) (X0_4 m c t) (X0_5 m c t) (iblk m c 6 t)
      (outsAt0 m c (t.val - 1) (Nat.lt_of_le_of_lt (Nat.sub_le _ _) t.isLt)).2 := by
  rw [outsAt0_B m c t h]
  dsimp only
  frame_open
  frame_out
  simp only [read_unread_whole]
  rfl

/-- What every point stores. -/
theorem stored (c : Dev nD) (t : Fin cfg0.N) : (outsAt0 m c t.val t.isLt).1
    = value (X0_3 m c t) (X0_4 m c t) (X0_5 m c t) (iblk m c 6 t)
        (staged (iblk m c 0 ⟨4 * (t.val / 4), Pipeline.run_start_lt t⟩) (iblk m c 1 ⟨4 * (t.val / 4), Pipeline.run_start_lt t⟩)
          (iblk m c 2 ⟨4 * (t.val / 4), Pipeline.run_start_lt t⟩)) := by
  rw [← held m c t]
  by_cases h : t.val % 4 = 0
  · rw [stored_A m c t h, scratch_first m c t h]
  · rw [stored_B m c t h]
    refine congrArg (value _ _ _ _) ?_
    rw [outsAt0_B m c t h]; rfl

/-- A row of a row block. -/
def blockRow (t : Fin cfg0.N) (a : Fin 512) : Fin 8192 :=
  ⟨512 * (t.val / 4) + a.val, by have : t.val < 64 := t.isLt; have := a.isLt; omega⟩

/-- A column of a column block. -/
def blockCol (t : Fin cfg0.N) (b : Fin 512) : Fin 2048 :=
  ⟨512 * (t.val % 4) + b.val, by have := b.isLt; omega⟩

theorem rows_0 (c : Dev nD) (t : Fin cfg0.N) (a : Fin 512) (k : Fin 1024) :
    iblk m c 0 ⟨4 * (t.val / 4), Pipeline.run_start_lt t⟩ (ix2 a k) = m ((c : Thread nD τ).loc main_arg0) (ix2 (blockRow t a) k) := by
  blk_ext [iblk, V, idx ⟨4 * (t.val / 4), Pipeline.run_start_lt t⟩]
  all_goals (simp only [blockRow] <;> omega)

theorem rows_1 (c : Dev nD) (t : Fin cfg0.N) (a : Fin 512) (k : Fin 1024) :
    iblk m c 1 ⟨4 * (t.val / 4), Pipeline.run_start_lt t⟩ (ix2 a k) = m ((c : Thread nD τ).loc main_arg1) (ix2 (blockRow t a) k) := by
  blk_ext [iblk, V, idx ⟨4 * (t.val / 4), Pipeline.run_start_lt t⟩]
  all_goals (simp only [blockRow] <;> omega)

theorem rows_2 (c : Dev nD) (t : Fin cfg0.N) (a : Fin 512) (k : Fin 1024) :
    iblk m c 2 ⟨4 * (t.val / 4), Pipeline.run_start_lt t⟩ (ix2 a k) = m ((c : Thread nD τ).loc main_arg2) (ix2 (blockRow t a) k) := by
  blk_ext [iblk, V, idx ⟨4 * (t.val / 4), Pipeline.run_start_lt t⟩]
  all_goals (simp only [blockRow] <;> omega)

theorem gate_0 (c : Dev nD) (t : Fin cfg0.N) (a b : Fin 512) :
    X0_3 m c t (ix2 a b) = m ((c : Thread nD τ).loc main_arg3) (ix2 (blockRow t a) (gateCol 0 (blockCol t b))) := by
  unfold X0_3 Pipeline.Window.fill
  rw [dif_pos (moved0_3 t _)]
  blk_ext [iblk, V, idx t]
  all_goals (simp only [blockRow, blockCol, gateCol, Fin.val_zero, Fin.val_one, Fin.val_two] <;> omega)

theorem gate_1 (c : Dev nD) (t : Fin cfg0.N) (a b : Fin 512) :
    X0_4 m c t (ix2 a b) = m ((c : Thread nD τ).loc main_arg3) (ix2 (blockRow t a) (gateCol 1 (blockCol t b))) := by
  unfold X0_4 Pipeline.Window.fill
  rw [dif_pos (moved0_4 t _)]
  blk_ext [iblk, V, idx t]
  all_goals (simp only [blockRow, blockCol, gateCol, Fin.val_zero, Fin.val_one, Fin.val_two] <;> omega)

theorem gate_2 (c : Dev nD) (t : Fin cfg0.N) (a b : Fin 512) :
    X0_5 m c t (ix2 a b) = m ((c : Thread nD τ).loc main_arg3) (ix2 (blockRow t a) (gateCol 2 (blockCol t b))) := by
  unfold X0_5 Pipeline.Window.fill
  rw [dif_pos (moved0_5 t _)]
  blk_ext [iblk, V, idx t]
  all_goals (simp only [blockRow, blockCol, gateCol, Fin.val_zero, Fin.val_one, Fin.val_two] <;> omega)

theorem weight_at (c : Dev nD) (t : Fin cfg0.N) (k : Fin 3072) (b : Fin 512) :
    iblk m c 6 t (ix2 k b) = m ((c : Thread nD τ).loc main_arg4) (ix2 k (blockCol t b)) := by
  blk_point [iblk, idx t]
  all_goals (simp only [blockCol] <;> omega)

theorem place (t : Fin cfg0.N) (a b : Fin 512) :
    ((cfg0.win 7).blk t).view.emb (ix2 a b) = ix2 (blockRow t a) (blockCol t b) := by
  blk_ext [idx t]
  all_goals (simp only [blockRow, blockCol] <;> omega)

/-- The block that a point stores, at an index. -/
theorem value_at (g0 g1 g2 : Vec Ideal S512x512 .f32) (w : Vec Ideal S3072x512 .bf16) (x0 x1 x2 : Vec Ideal S512x1024 .f32) (a b : Fin 512) :
    value g0 g1 g2 w (staged x0 x1 x2) (ix2 a b)
      = (Ideal.logistic (g0 (ix2 a b)) * ∑ k : Fin 1024, x0 (ix2 a k) * w (ix2 (part 0 k) b)
        + Ideal.logistic (g1 (ix2 a b)) * ∑ k : Fin 1024, x1 (ix2 a k) * w (ix2 (part 1 k) b)
        + Ideal.logistic (g2 (ix2 a b)) * ∑ k : Fin 1024, x2 (ix2 a k) * w (ix2 (part 2 k) b) : EReal) := by
  unfold value
  rw [slab_0, slab_1, slab_2]
  pointwise [k0_pay4, k0_pay3, k0_pay2, k0_pay1, part]

/-- What a grid point stores is the reference's array over the point's block. -/
theorem point (c : Dev nD) (t : Fin cfg0.N) (y : S512x512.Idx) :
    (outsAt0 m c t.val t.isLt).1 y
      = target (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 7).blk t).view.emb y) := by
  obtain ⟨a, b, rfl⟩ : ∃ a b, y = ix2 a b := ⟨y 0, y 1, by funext q; match q with | ⟨0, _⟩ => rfl | ⟨1, _⟩ => rfl⟩
  refine Eq.trans ?_ (congrArg _ (place t a b)).symm
  rw [stored, value_at]
  simp only [rows_0, rows_1, rows_2, gate_0, gate_1, gate_2, weight_at]
  rfl

/-- The result array after the run. -/
theorem final (c : Dev nD) : (dats m 0 c).arrAt 7 cfg0.N
    = target (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  exact point m c t y

/-- The reference's text is the array above. -/
theorem reference_eq (ya yb yc : FVec Ideal S8192x1024 .f32) (p : FVec Ideal S8192x23808 .f32) (w : FVec Ideal S3072x2048 .f32) :
    Cert.MergeRefIdeal.Read.val_main_v20 (F := Ideal) ya yb yc p w = target ya yb yc p w := by
  rw [← Cert.MergeRefIdeal.Read.val_main_v20_eq]
  funext y
  obtain ⟨a, b, rfl⟩ : ∃ a b, y = ix2 a b := ⟨y 0, y 1, by funext q; match q with | ⟨0, _⟩ => rfl | ⟨1, _⟩ => rfl⟩
  pointwise [target, share, part, gateCol]
  have h1 : (⟨17408 + (2048 + b.val), by have := b.isLt; omega⟩ : Fin 23808) = ⟨19456 + b.val, by have := b.isLt; omega⟩ :=
    Fin.ext (by show 17408 + (2048 + b.val) = 19456 + b.val; omega)
  have h2 : (⟨17408 + (4096 + b.val), by have := b.isLt; omega⟩ : Fin 23808) = ⟨21504 + b.val, by have := b.isLt; omega⟩ :=
    Fin.ext (by show 17408 + (4096 + b.val) = 21504 + b.val; omega)
  rw [h1, h2]
  rfl

end Cert.MergeIdeal.Merge
-- ==== Proof.OutValue.lean ====
/-
  The output projection, from its grid run to the reference's array.

  The kernel walks 8 row blocks of 1024 rows, and for each of them 4 blocks of 512 columns. At a row block's first column
  block it copies its 1024 rows into scratch; at every column block it multiplies the scratch by a block of the weight
  and adds the block of the residual. `held` says what the scratch holds, `point` what one grid point stores, and
  `final` that the result array is the reference's `x + y w`.
-/
module

public import proofs.«01_k».proof.Proof.Gen.OutIdeal.Value
public import proofs.«01_k».proof.Proof.Gen.OutRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Projection

open Cert.OutIdeal Cert.OutIdeal.Gen

variable (m : (ℓ : Loc nD τ sig) → Buf (Elt Ideal) ℓ)

/-- The reference's array: the residual plus the product of the rows `y` with the weight. -/
def target (y : FVec Ideal S8192x2048 .f32) (x : FVec Ideal S8192x2048 .f32) (w : FVec Ideal S2048x2048 .f32) :
    FVec Ideal S8192x2048 .f32 :=
  addf x (Host.dotGeneral Cert.OutRefIdeal.dot_S8192x2048_S2048x2048_S8192x2048_1_0_0_1_n_n none y w)

/-- The block index of every window at every grid point. -/
theorem idx : ∀ t : Fin cfg0.N, win0_0.index t = ![t.val / 4, 0] ∧ win0_2.index t = ![0, t.val % 4]
    ∧ win0_3.index t = ![t.val / 4, t.val % 4] ∧ win0_4.index t = ![t.val / 4, t.val % 4] :=
  (by decide +kernel : ∀ t : Fin grid0.N, _)

/-- What the scratch holds after the first column block of a row block: the rows, cast. -/
theorem scratch_first (c : Dev nD) (t : Fin cfg0.N) (h : t.val % 4 = 0) :
    (outsAt0 m c t.val t.isLt).2 = k0_pay1 (iblk m c 0 t) := by
  rw [outsAt0_A m c t h]; frame_out

/-- At every grid point the scratch holds the rows staged at its row block's first column block. -/
theorem held (c : Dev nD) (t : Fin cfg0.N) :
    (outsAt0 m c t.val t.isLt).2
      = k0_pay1 (iblk m c 0 ⟨4 * (t.val / 4), Pipeline.run_start_lt t⟩) := by
  refine Pipeline.eq_of_write_hold (fun n h => (outsAt0 m c n h).2) 4 (fun t => k0_pay1 (iblk m c 0 t))
    (fun t h => scratch_first m c t h) (fun t h => ?_) t
  show (outsAt0 m c t.val t.isLt).2 = _
  rw [outsAt0_B m c t h]; rfl

/-- What a grid point stores is the reference's array over the point's block. -/
theorem point (c : Dev nD) (t : Fin cfg0.N) (y : S1024x512.Idx) :
    k0_pay2 (outsAt0 m c t.val t.isLt).2 (iblk m c 2 t) (iblk m c 3 t) y
      = target (m ((c : Thread nD τ).loc main_arg0)) (m ((c : Thread nD τ).loc main_arg1))
          (m ((c : Thread nD τ).loc main_arg2)) (((cfg0.win 4).blk t).view.emb y) := by
  rw [held]
  pointwise [k0_pay2, k0_pay1, target]
  rw [add_comm]
  blk_point [iblk, V, idx t, idx ⟨4 * (t.val / 4), Pipeline.run_start_lt t⟩]

/-- The result array after the run. -/
theorem final (c : Dev nD) : (dats m 0 c).arrAt 4 cfg0.N
    = target (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, ← point m c t y]
  by_cases h : t.val % 4 = 0
  · rw [outsAt0_A m c t h]
    frame_out
  · rw [outsAt0_B m c t h]
    have hs : sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) (iblk m c 3 t) (outsAt0 m c (t.val - 1) (Nat.lt_of_le_of_lt (Nat.sub_le _ _) t.isLt)).2 = (outsAt0 m c (t.val - 1) (Nat.lt_of_le_of_lt (Nat.sub_le _ _) t.isLt)).2 := rfl
    rw [hs]
    frame_out
    simp only [read_unread_whole]

end Cert.OutIdeal.Projection
-- ==== Proof.OutSValue.lean ====
/-
  The output projection at the sample rows, from its grid run to the reference's array.

  The kernel walks 4 blocks of 512 columns. At the first it copies the 32 rows into scratch; at every column block it
  multiplies the scratch by a block of the weight and adds the block of the residual. The residual comes in, and the
  result goes out, through a reshape on the host: `flat` is the kernel's own array, `result` the reshaped one.
-/
module

public import proofs.«01_k».proof.Proof.Gen.OutSIdeal.Frame
public import proofs.«01_k».proof.Proof.Gen.OutSRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutSIdeal.Projection

open Cert.OutSIdeal Cert.OutSIdeal.Gen

variable (m : (ℓ : Loc nD τ sig) → Buf (Elt Ideal) ℓ)

/-- The kernel's array: the residual plus the product of the rows `y` with the weight. -/
def flat (y : FVec Ideal S32x2048 .f32) (x : FVec Ideal S32x1x2048 .f32) (w : FVec Ideal S2048x2048 .f32) :
    FVec Ideal S32x2048 .f32 := fun q =>
  (x (ix3 (q 0) 0 (q 1)) + ∑ k : Fin 2048, y (ix2 (q 0) k) * w (ix2 k (q 1)) : EReal)

/-- The block index of every window at every grid point. -/
theorem idx : ∀ t : Fin cfg0.N, win0_0.index t = ![0, 0] ∧ win0_2.index t = ![0, t.val]
    ∧ win0_3.index t = ![0, t.val] ∧ win0_4.index t = ![0, t.val] ∧ t.val / 4 = 0 ∧ t.val % 4 = t.val :=
  (by decide +kernel : ∀ t : Fin grid0.N, _)

/-- What the scratch holds after the first column block: the rows, cast. -/
theorem scratch_first (c : Dev nD) (t : Fin cfg0.N) (h : t.val % 4 = 0) :
    (outsAt0 m c t.val t.isLt).2 = k0_pay1 (iblk m c 0 t) := by
  rw [outsAt0_A m c t h]; frame_out

/-- At every grid point the scratch holds the rows staged at the first column block. -/
theorem held (c : Dev nD) (t : Fin cfg0.N) :
    (outsAt0 m c t.val t.isLt).2
      = k0_pay1 (iblk m c 0 ⟨4 * (t.val / 4), Pipeline.run_start_lt t⟩) := by
  refine Pipeline.eq_of_write_hold (fun n h => (outsAt0 m c n h).2) 4 (fun t => k0_pay1 (iblk m c 0 t))
    (fun t h => scratch_first m c t h) (fun t h => ?_) t
  show (outsAt0 m c t.val t.isLt).2 = _
  rw [outsAt0_B m c t h]; rfl

/-- A column of a column block. -/
def blockCol (t : Fin cfg0.N) (b : Fin 512) : Fin 2048 :=
  ⟨512 * t.val + b.val, by have := t.isLt; have : t.val < 4 := this; have := b.isLt; omega⟩

theorem resid_entry (c : Dev nD) : V m c main_v1
    = shapeCast S32x2048 (m ((c : Thread nD τ).loc main_arg1)) shapeCasts_S32x1x2048_S32x2048 := by
  show StableHlo.after hostOps0 _ _ = _
  after_results <;> rfl

theorem weight_entry (c : Dev nD) : V m c main_v0
    = (truncf .bf16 (m ((c : Thread nD τ).loc main_arg2) : FVec Ideal S2048x2048 .f32) bitsLt_bf16_f32 : FVec Ideal S2048x2048 .bf16) := by
  show StableHlo.after hostOps0 _ _ = _
  after_results <;> rfl

theorem rows_at (c : Dev nD) (t : Fin cfg0.N) (a : Fin 32) (k : Fin 2048) :
    iblk m c 0 t (ix2 a k) = m ((c : Thread nD τ).loc main_arg0) (ix2 a k) := by
  blk_point [iblk, V, idx t]

theorem weight_at (c : Dev nD) (t : Fin cfg0.N) (k : Fin 2048) (b : Fin 512) :
    iblk m c 2 t (ix2 k b) = m ((c : Thread nD τ).loc main_arg2) (ix2 k (blockCol t b)) := by
  refine Eq.trans (b := (truncf .bf16 (m ((c : Thread nD τ).loc main_arg2) : FVec Ideal S2048x2048 .f32) bitsLt_bf16_f32 : FVec Ideal S2048x2048 .bf16) (ix2 k (blockCol t b))) ?_ rfl
  rw [← weight_entry]
  blk_ext [iblk, idx t]
  all_goals (simp only [blockCol] <;> omega)

theorem resid_at (c : Dev nD) (t : Fin cfg0.N) (a : Fin 32) (b : Fin 512) :
    iblk m c 3 t (ix2 a b) = m ((c : Thread nD τ).loc main_arg1) (ix3 a 0 (blockCol t b)) := by
  refine Eq.trans (b := shapeCast S32x2048 (m ((c : Thread nD τ).loc main_arg1)) shapeCasts_S32x1x2048_S32x2048 (ix2 a (blockCol t b))) ?_ ?_
  · rw [← resid_entry]
    blk_ext [iblk, idx t]
    all_goals (simp only [blockCol] <;> omega)
  · pointwise

theorem place (t : Fin cfg0.N) (a : Fin 32) (b : Fin 512) :
    ((cfg0.win 4).blk t).view.emb (ix2 a b) = ix2 a (blockCol t b) := by
  blk_ext [idx t]
  all_goals (simp only [blockCol] <;> omega)

/-- What a grid point stores is the kernel's array over the point's block. -/
theorem point (c : Dev nD) (t : Fin cfg0.N) (y : S32x512.Idx) :
    k0_pay2 (outsAt0 m c t.val t.isLt).2 (iblk m c 2 t) (iblk m c 3 t) y
      = flat (m ((c : Thread nD τ).loc main_arg0)) (m ((c : Thread nD τ).loc main_arg1))
          (m ((c : Thread nD τ).loc main_arg2)) (((cfg0.win 4).blk t).view.emb y) := by
  obtain ⟨a, b, rfl⟩ : ∃ a b, y = ix2 a b := ⟨y 0, y 1, by funext q; match q with | ⟨0, _⟩ => rfl | ⟨1, _⟩ => rfl⟩
  rw [held]
  refine Eq.trans ?_ (congrArg _ (place t a b)).symm
  pointwise [k0_pay2, k0_pay1, flat]
  rw [add_comm, resid_at]
  simp only [rows_at, weight_at]

/-- The kernel's array after the run. -/
theorem final (c : Dev nD) : (dats m 0 c).arrAt 4 cfg0.N
    = flat (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, ← point m c t y]
  by_cases h : t.val % 4 = 0
  · rw [outsAt0_A m c t h]
    frame_out
  · rw [outsAt0_B m c t h]
    have hs : sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h' => h ((hcond0_0 t).mp h')) (iblk m c 0 t) (iblk m c 1 t) (iblk m c 2 t) (iblk m c 3 t) (outsAt0 m c (t.val - 1) (Nat.lt_of_le_of_lt (Nat.sub_le _ _) t.isLt)).2 = (outsAt0 m c (t.val - 1) (Nat.lt_of_le_of_lt (Nat.sub_le _ _) t.isLt)).2 := rfl
    rw [hs]
    frame_out
    simp only [read_unread_whole]

/-- The result: the kernel's array, reshaped on the host. -/
theorem result (c : Dev nD) : Pipeline.afterTail₀ cfgs (dats m) 0 (V0 m) [hostOps1] c main_v5
    = shapeCast S32x1x2048 (flat (m ((c : Thread nD τ).loc main_arg0)) (m ((c : Thread nD τ).loc main_arg1))
        (m ((c : Thread nD τ).loc main_arg2))) shapeCasts_S32x2048_S32x1x2048 := by
  rw [← final]
  show StableHlo.after hostOps1 _ _ = _
  after_results
  exact congrArg (fun A => shapeCast S32x1x2048 A shapeCasts_S32x2048_S32x1x2048)
    (Pipeline.withArrays_arr (cfgs 0).spec (by decide +kernel) c (V0 m c) (fun w => (dats m 0 c).arrAt w (cfgs 0).N) 4)

/-- The reference's text is the same array. -/
theorem reference_eq (y : FVec Ideal S32x2048 .f32) (x : FVec Ideal S32x1x2048 .f32) (w : FVec Ideal S2048x2048 .f32) :
    Cert.OutSRefIdeal.Read.val_main_v2 (F := Ideal) y x w
      = shapeCast S32x1x2048 (flat y x w) shapeCasts_S32x2048_S32x1x2048 := by
  rw [← Cert.OutSRefIdeal.Read.val_main_v2_eq]
  funext q
  obtain ⟨a, b, d, rfl⟩ : ∃ a b d, q = ix3 a b d := ⟨q 0, q 1, q 2, by
    funext r; match r with | ⟨0, _⟩ => rfl | ⟨1, _⟩ => rfl | ⟨2, _⟩ => rfl⟩
  obtain rfl : b = 0 := Subsingleton.elim _ _
  pointwise [flat]

end Cert.OutSIdeal.Projection
-- ==== Proof.SampleProj.lean ====
/-
  The input projection at the sample rows, from its grid run to the kernel's array.

  The kernel walks 31 blocks of 768 columns. At the first it normalises the 32 rows into scratch; at every column block it
  multiplies the scratch by a block of the weight, whose columns were put into the result's order. `held` says what the
  scratch holds, `point` what one grid point stores, and `final` what the array is after the run.
-/
module

public import proofs.«01_k».proof.Proof.Gen.SampleIdeal.Frame
public import proofs.«01_k».proof.Proof.Gen.SampleRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleIdeal.Projection

open Cert.SampleIdeal Cert.SampleIdeal.Gen

variable (m : (ℓ : Loc nD τ sig) → Buf (Elt Ideal) ℓ)

/-- A row of `x`, normalised. -/
def normed (x : FVec Ideal S32x1x2048 .f32) (g : FVec Ideal S2048 .f32) : FVec Ideal S32x2048 .f32 := fun y =>
  (x (ix3 (y 0) 0 (y 1)) * Ideal.rsqrt (Ideal.div (∑ l : Fin 2048, x (ix3 (y 0) 0 l) * x (ix3 (y 0) 0 l)) (Ideal.ofBits .f32 0x45000000#32)
    + Ideal.ofBits .f32 0x358637BD#32) * g (ix1 (y 1)) : EReal)

theorem normed_at (x : FVec Ideal S32x1x2048 .f32) (g : FVec Ideal S2048 .f32) (a : Fin 32) (k : Fin 2048) :
    normed x g (ix2 a k) = (x (ix3 a 0 k) * Ideal.rsqrt (Ideal.div (∑ l : Fin 2048, x (ix3 a 0 l) * x (ix3 a 0 l))
      (Ideal.ofBits .f32 0x45000000#32) + Ideal.ofBits .f32 0x358637BD#32) * g (ix1 k) : EReal) := rfl

/-- The weight's column that column `j` of the result is the product with; past the weight's columns there is none. -/
def source (j : Fin 23808) : Option (Fin 23568) :=
  if h : j.val < 17408 then some ⟨j.val, by omega⟩
  else if h' : j.val < 23552 then some ⟨j.val + 16, by omega⟩
  else if h'' : j.val < 23568 then some ⟨j.val - 6144, by omega⟩ else none

/-- The kernel's array: the normalised rows times the weight, its columns in the result's order, and zeros. -/
def target (x : FVec Ideal S32x1x2048 .f32) (g : FVec Ideal S2048 .f32) (w : FVec Ideal S2048x23568 .f32) :
    FVec Ideal S32x23808 .f32 := fun y =>
  match source (y 1) with
  | some q => (∑ k : Fin 2048, normed x g (ix2 (y 0) k) * w (ix2 k q) : EReal)
  | none => (0 : EReal)

/-- The weight that the kernel is given: its columns in the result's order, and zeros. -/
def weight (w : FVec Ideal S2048x23568 .f32) : FVec Ideal S2048x23808 .bf16 := fun y =>
  match source (y 1) with
  | some q => w (ix2 (y 0) q)
  | none => (0 : EReal)

/-- The block index of every window at every grid point. -/
theorem idx : ∀ t : Fin cfg0.N, win0_0.index t = ![0, 0] ∧ win0_1.index t = ![0, 0] ∧ win0_2.index t = ![0, t.val]
    ∧ win0_3.index t = ![0, t.val] ∧ t.val / 31 = 0 ∧ t.val % 31 = t.val :=
  (by decide +kernel : ∀ t : Fin grid0.N, _)

/-- The host's arrangement of the weight's columns. -/
theorem weight_form (w : FVec Ideal S2048x23568 .f32) : (truncf .bf16 (concatenate S2048x23808 1
    [⟨S2048x17408, extractStridedSlice S2048x17408 ![0, 0] w slices_S2048x23568_S2048x17408_0_0⟩,
     ⟨S2048x6144, extractStridedSlice S2048x6144 ![0, 17424] w slices_S2048x23568_S2048x6144_0_17424⟩,
     ⟨S2048x16, extractStridedSlice S2048x16 ![0, 17408] w slices_S2048x23568_S2048x16_0_17408⟩,
     ⟨S2048x240, broadcastInDim S2048x240 ![] bcast_S_S2048x240 (constant S_ .f32 0x00000000#32)⟩]
    concatenates_S2048x17408_S2048x6144_S2048x16_S2048x240_S2048x23808_d1) bitsLt_bf16_f32 : FVec Ideal S2048x23808 .bf16) = weight w := by
  funext y
  have h1 : (y 1).val < 23808 := (y 1).isLt
  pointwise [weight, source]
  by_cases a : (y 1).val < 17408
  · rw [dif_pos a, dif_pos a]
  · rw [dif_neg a, dif_neg a]
    by_cases b : (y 1).val < 23552
    · rw [dif_pos (by omega), dif_pos b]
      exact congrArg (fun q => w (ix2 (y 0) q)) (Fin.ext (by show 17424 + ((y 1).val - 17408) = (y 1).val + 16; omega))
    · rw [dif_neg (by omega), dif_neg b]
      by_cases d : (y 1).val < 23568
      · rw [dif_pos (by omega), dif_pos d]
        exact congrArg (fun q => w (ix2 (y 0) q)) (Fin.ext (by show 17408 + ((y 1).val - 17408 - 6144) = (y 1).val - 6144; omega))
      · rw [dif_neg (by omega), dif_neg d]

set_option maxHeartbeats 800000 in
/-- The weight at the kernel's call. -/
theorem weight_entry (c : Dev nD) : V m c main_v6 = weight (m ((c : Thread nD τ).loc main_arg7)) := by
  refine Eq.trans ?_ (weight_form _)
  show StableHlo.after hostOps0 _ _ = _
  after_results <;> rfl

/-- What the scratch holds after the first column block of a row block: the rows, normalised. -/
theorem scratch_first (c : Dev nD) (t : Fin cfg0.N) (h : t.val % 31 = 0) :
    (outsAt0 m c t.val t.isLt).2 = k0_pay1 (iblk m c 0 t) (iblk m c 1 t) := by
  rw [outsAt0_A m c t h]; frame_out

/-- At every grid point the scratch holds the rows staged at its row block's first column block. -/
theorem held (c : Dev nD) (t : Fin cfg0.N) :
    (outsAt0 m c t.val t.isLt).2
      = k0_pay1 (iblk m c 0 ⟨31 * (t.val / 31), Pipeline.run_start_lt t⟩) (iblk m c 1 ⟨31 * (t.val / 31), Pipeline.run_start_lt t⟩) := by
  refine Pipeline.eq_of_write_hold (fun n h => (outsAt0 m c n h).2) 31 (fun t => k0_pay1 (iblk m c 0 t) (iblk m c 1 t))
    (fun t h => scratch_first m c t h) (fun t h => ?_) t
  show (outsAt0 m c t.val t.isLt).2 = _
  rw [outsAt0_B m c t h]; rfl

/-- The kernel's array as one product with the arranged weight. -/
theorem target_eq (x : FVec Ideal S32x1x2048 .f32) (g : FVec Ideal S2048 .f32) (w : FVec Ideal S2048x23568 .f32)
    (a : Fin 32) (b : Fin 23808) :
    target x g w (ix2 a b) = (∑ k : Fin 2048, normed x g (ix2 a k) * weight w (ix2 k b) : EReal) := by
  show (match source b with
    | some q => (∑ k : Fin 2048, normed x g (ix2 a k) * w (ix2 k q) : EReal)
    | none => (0 : EReal)) = ∑ k : Fin 2048, normed x g (ix2 a k) * (match source b with
    | some q => w (ix2 k q)
    | none => (0 : EReal))
  cases source b with
  | some q => rfl
  | none => exact (Finset.sum_eq_zero fun k _ => mul_zero _).symm

/-- A column of a column block. -/
def blockCol (t : Fin cfg0.N) (b : Fin 768) : Fin 23808 :=
  ⟨768 * t.val + b.val, by have := t.isLt; have : t.val < 31 := this; have := b.isLt; omega⟩

set_option maxHeartbeats 1600000 in
theorem rows_at (c : Dev nD) (t : Fin cfg0.N) (a : Fin 32) (k : Fin 2048) :
    iblk m c 0 t (ix2 a k) = m ((c : Thread nD τ).loc main_arg0) (ix3 a 0 k) := by
  have e : V m c main_v0 = shapeCast S32x2048 (m ((c : Thread nD τ).loc main_arg0)) shapeCasts_S32x1x2048_S32x2048 := by
    show StableHlo.after hostOps0 _ _ = _
    after_results <;> rfl
  refine Eq.trans (b := shapeCast S32x2048 (m ((c : Thread nD τ).loc main_arg0)) shapeCasts_S32x1x2048_S32x2048 (ix2 a k)) ?_ ?_
  · rw [← e]
    blk_ext [iblk, idx t]
  · pointwise

set_option maxHeartbeats 1600000 in
theorem gain_at (c : Dev nD) (t : Fin cfg0.N) (k : Fin 2048) :
    iblk m c 1 t (ix2 0 k) = m ((c : Thread nD τ).loc main_arg6) (ix1 k) := by
  have e : V m c main_v7 = shapeCast S1x2048 (m ((c : Thread nD τ).loc main_arg6)) shapeCasts_S2048_S1x2048 := by
    show StableHlo.after hostOps0 _ _ = _
    after_results <;> rfl
  refine Eq.trans (b := shapeCast S1x2048 (m ((c : Thread nD τ).loc main_arg6)) shapeCasts_S2048_S1x2048 (ix2 0 k)) ?_ ?_
  · rw [← e]
    blk_ext [iblk, idx t]
  · pointwise

theorem weight_at (c : Dev nD) (t : Fin cfg0.N) (k : Fin 2048) (b : Fin 768) :
    iblk m c 2 t (ix2 k b) = weight (m ((c : Thread nD τ).loc main_arg7)) (ix2 k (blockCol t b)) := by
  rw [← weight_entry]
  blk_ext [iblk, idx t]
  all_goals (simp only [blockCol] <;> omega)

theorem place (t : Fin cfg0.N) (a : Fin 32) (b : Fin 768) :
    ((cfg0.win 3).blk t).view.emb (ix2 a b) = ix2 a (blockCol t b) := by
  blk_ext [idx t]
  all_goals (simp only [blockCol] <;> omega)

/-- What a grid point stores is the kernel's array over the point's block. -/
theorem point (c : Dev nD) (t : Fin cfg0.N) (y : S32x768.Idx) :
    k0_pay2 (outsAt0 m c t.val t.isLt).2 (iblk m c 2 t) y
      = target (m ((c : Thread nD τ).loc main_arg0)) (m ((c : Thread nD τ).loc main_arg6))
          (m ((c : Thread nD τ).loc main_arg7)) (((cfg0.win 3).blk t).view.emb y) := by
  obtain ⟨a, b, rfl⟩ : ∃ a b, y = ix2 a b := ⟨y 0, y 1, by funext q; match q with | ⟨0, _⟩ => rfl | ⟨1, _⟩ => rfl⟩
  rw [held]
  refine Eq.trans ?_ ((congrArg _ (place t a b)).trans (target_eq _ _ _ _ _)).symm
  pointwise [k0_pay2, k0_pay1]
  refine Finset.sum_congr rfl fun k _ => ?_
  rw [weight_at, gain_at, normed_at]
  simp only [rows_at]

/-- The result array after the run. -/
theorem final (c : Dev nD) : (dats m 0 c).arrAt 3 cfg0.N
    = target (m ((c : Thread nD τ).loc main_arg0)) (m ((c : Thread nD τ).loc main_arg6))
        (m ((c : Thread nD τ).loc main_arg7)) := by
  refine (dats m 0 c).arrAt_eq_of_covers 3 _ (by decide +kernel) fun t _ y => ?_
  blk_simp
  rw [after0_3, ← point m c t y]
  by_cases h : t.val % 31 = 0
  · rw [outsAt0_A m c t h]
    frame_out
  · rw [outsAt0_B m c t h]
    have hs : sout0_B_0 c (grid0.coords t) (ms0_0 t) (hs0_0 t) (ms0_1 t) (hs0_1 t) (ms0_2 t) (hs0_2 t) (ms0_3 t) (hs0_3 t) scM0_0 (Memref.isWhole_whole _) (fun h' => h ((hcond0_0 t).mp h')) (iblk m c 0 t) (iblk m c 1 t) (iblk m c 2 t) (outsAt0 m c (t.val - 1) (Nat.lt_of_le_of_lt (Nat.sub_le _ _) t.isLt)).2 = (outsAt0 m c (t.val - 1) (Nat.lt_of_le_of_lt (Nat.sub_le _ _) t.isLt)).2 := rfl
    rw [hs]
    frame_out
    simp only [read_unread_whole]

end Cert.SampleIdeal.Projection
-- ==== Proof.SampleValue.lean ====
/-
  The states of the sample rows, from the projection's array.

  The kernel's host lines after the call cut the projection's columns and push them into the four buffers; the reference
  does the same with its own product. The columns that they cut lie before the ones that the kernel's array permutes, so
  the four cuts agree (`value_cols` … `short_cols`), and with them the five states.
-/
module

public import proofs.«01_k».proof.Proof.SampleProj
public import proofs.«01_k».proof.Proof.Gen.SampleRefIdeal.Read

@[expose] public section

set_option maxRecDepth 16384

noncomputable section

open Idealize.ShloMosaic Idealize.ShloMosaic.TcCoe Idealize.SL.Sem

namespace Cert.SampleIdeal.States

open Cert.SampleIdeal Cert.SampleIdeal.Gen Cert.SampleIdeal.Projection

variable (m : (ℓ : Loc nD τ sig) → Buf (Elt Ideal) ℓ)

/-- The kernel's array, as the host lines read it. -/
def rows (x : FVec Ideal S32x1x2048 .f32) (g : FVec Ideal S2048 .f32) (w : FVec Ideal S2048x23568 .f32) :
    FVec Ideal S32x1x23808 .f32 :=
  shapeCast S32x1x23808 (target x g w) shapeCasts_S32x23808_S32x1x23808

/-- Before the permuted columns the kernel's array is the reference's product. -/
theorem rows_at (x : FVec Ideal S32x1x2048 .f32) (g : FVec Ideal S2048 .f32) (w : FVec Ideal S2048x23568 .f32)
    (a : Fin 32) (j : Nat) (h : j < 17408) :
    rows x g w (ix3 a 0 ⟨j, by omega⟩) = Cert.SampleRefIdeal.Read.val_main_v13 (F := Ideal) x g w (ix3 a 0 ⟨j, by omega⟩) := by
  have e : source ⟨j, by omega⟩ = some ⟨j, by omega⟩ := dif_pos h
  refine Eq.trans (b := target x g w (ix2 a ⟨j, by omega⟩)) (by pointwise [rows]) ?_
  show (match source ⟨j, by omega⟩ with
    | some q => (∑ k : Fin 2048, normed x g (ix2 a k) * w (ix2 k q) : EReal)
    | none => (0 : EReal)) = _
  rw [e]
  pointwise [normed, Cert.SampleRefIdeal.Read.val_main_v13, Cert.SampleRefIdeal.Read.val_main_v12,
    Cert.SampleRefIdeal.Read.val_main_v11, Cert.SampleRefIdeal.Read.val_main_v10, Cert.SampleRefIdeal.Read.val_main_v9,
    Cert.SampleRefIdeal.Read.val_main_v8, Cert.SampleRefIdeal.Read.val_main_v7, Cert.SampleRefIdeal.Read.val_main_v6,
    Cert.SampleRefIdeal.Read.val_main_v5, Cert.SampleRefIdeal.Read.val_main_v4, Cert.SampleRefIdeal.Read.val_main_v3,
    Cert.SampleRefIdeal.Read.val_main_v2, Cert.SampleRefIdeal.Read.val_main_v1, Cert.SampleRefIdeal.Read.val_main_v0,
    Cert.SampleRefIdeal.Read.val_main_cst, Cert.SampleRefIdeal.Read.val_main_cst_0, Cert.SampleRefIdeal.Read.val_main_cst_1]

/-- The four cuts of the two arrays agree. -/
theorem value_cols (x : FVec Ideal S32x1x2048 .f32) (g : FVec Ideal S2048 .f32) (w : FVec Ideal S2048x23568 .f32) :
    extractStridedSlice S32x1x1024 ![0, 0, 0] (rows x g w) slices_S32x1x23808_S32x1x1024_0_0_0
      = Cert.SampleRefIdeal.Read.val_main_v14 (F := Ideal) x g w := by
  funext y
  obtain ⟨a, b, d, rfl⟩ : ∃ a b d, y = ix3 a b d := ⟨y 0, y 1, y 2, by
    funext r; match r with | ⟨0, _⟩ => rfl | ⟨1, _⟩ => rfl | ⟨2, _⟩ => rfl⟩
  obtain rfl : b = 0 := Subsingleton.elim _ _
  have hd : d.val < 1024 := d.isLt
  refine Eq.trans ?_ ((rows_at x g w a (0 + d.val) (by omega)).trans ?_)
  · pointwise
  · pointwise [Cert.SampleRefIdeal.Read.val_main_v14]

theorem glu_cols (x : FVec Ideal S32x1x2048 .f32) (g : FVec Ideal S2048 .f32) (w : FVec Ideal S2048x23568 .f32) :
    extractStridedSlice S32x1x1024 ![0, 0, 1024] (rows x g w) slices_S32x1x23808_S32x1x1024_0_0_1024
      = Cert.SampleRefIdeal.Read.val_main_v15 (F := Ideal) x g w := by
  funext y
  obtain ⟨a, b, d, rfl⟩ : ∃ a b d, y = ix3 a b d := ⟨y 0, y 1, y 2, by
    funext r; match r with | ⟨0, _⟩ => rfl | ⟨1, _⟩ => rfl | ⟨2, _⟩ => rfl⟩
  obtain rfl : b = 0 := Subsingleton.elim _ _
  have hd : d.val < 1024 := d.isLt
  refine Eq.trans ?_ ((rows_at x g w a (1024 + d.val) (by omega)).trans ?_)
  · pointwise
  · pointwise [Cert.SampleRefIdeal.Read.val_main_v15]

theorem key_cols (x : FVec Ideal S32x1x2048 .f32) (g : FVec Ideal S2048 .f32) (w : FVec Ideal S2048x23568 .f32) :
    extractStridedSlice S32x1x3072 ![0, 0, 6144] (rows x g w) slices_S32x1x23808_S32x1x3072_0_0_6144
      = Cert.SampleRefIdeal.Read.val_main_v25 (F := Ideal) x g w := by
  funext y
  obtain ⟨a, b, d, rfl⟩ : ∃ a b d, y = ix3 a b d := ⟨y 0, y 1, y 2, by
    funext r; match r with | ⟨0, _⟩ => rfl | ⟨1, _⟩ => rfl | ⟨2, _⟩ => rfl⟩
  obtain rfl : b = 0 := Subsingleton.elim _ _
  have hd : d.val < 3072 := d.isLt
  refine Eq.trans ?_ ((rows_at x g w a (6144 + d.val) (by omega)).trans ?_)
  · pointwise
  · pointwise [Cert.SampleRefIdeal.Read.val_main_v25]

theorem val_cols (x : FVec Ideal S32x1x2048 .f32) (g : FVec Ideal S2048 .f32) (w : FVec Ideal S2048x23568 .f32) :
    extractStridedSlice S32x1x3072 ![0, 0, 9216] (rows x g w) slices_S32x1x23808_S32x1x3072_0_0_9216
      = Cert.SampleRefIdeal.Read.val_main_v40 (F := Ideal) x g w := by
  funext y
  obtain ⟨a, b, d, rfl⟩ : ∃ a b d, y = ix3 a b d := ⟨y 0, y 1, y 2, by
    funext r; match r with | ⟨0, _⟩ => rfl | ⟨1, _⟩ => rfl | ⟨2, _⟩ => rfl⟩
  obtain rfl : b = 0 := Subsingleton.elim _ _
  have hd : d.val < 3072 := d.isLt
  refine Eq.trans ?_ ((rows_at x g w a (9216 + d.val) (by omega)).trans ?_)
  · pointwise
  · pointwise [Cert.SampleRefIdeal.Read.val_main_v40]

theorem short_cols (x : FVec Ideal S32x1x2048 .f32) (g : FVec Ideal S2048 .f32) (w : FVec Ideal S2048x23568 .f32) :
    extractStridedSlice S32x1x3072 ![0, 0, 13312] (rows x g w) slices_S32x1x23808_S32x1x3072_0_0_13312
      = Cert.SampleRefIdeal.Read.val_main_v87 (F := Ideal) x g w := by
  funext y
  obtain ⟨a, b, d, rfl⟩ : ∃ a b d, y = ix3 a b d := ⟨y 0, y 1, y 2, by
    funext r; match r with | ⟨0, _⟩ => rfl | ⟨1, _⟩ => rfl | ⟨2, _⟩ => rfl⟩
  obtain rfl : b = 0 := Subsingleton.elim _ _
  have hd : d.val < 3072 := d.isLt
  refine Eq.trans ?_ ((rows_at x g w a (13312 + d.val) (by omega)).trans ?_)
  · pointwise
  · pointwise [Cert.SampleRefIdeal.Read.val_main_v87]

/-- What every buffer holds when the host lines after the call begin. -/
abbrev exit (c : Dev nD) : Valuation τ sig (Elt Ideal) :=
  Pipeline.withArrays (cfgs 0).spec c (V0 m c) (fun w => (dats m 0 c).arrAt w (cfgs 0).N)

theorem exit_rows (c : Dev nD) : exit m c (Proc.devRef .tc main_v8)
    = target (m ((c : Thread nD τ).loc main_arg0)) (m ((c : Thread nD τ).loc main_arg6)) (m ((c : Thread nD τ).loc main_arg7)) :=
  (Pipeline.withArrays_arr (cfgs 0).spec (by decide +kernel) c (V0 m c) (fun w => (dats m 0 c).arrAt w (cfgs 0).N) 3).trans
    (final m c)

theorem exit_arg1 (c : Dev nD) : exit m c (Proc.devRef .tc main_arg1) = m ((c : Thread nD τ).loc main_arg1) :=
  (Pipeline.withArrays_of_ne (cfgs 0).spec c (V0 m c) (fun w => (dats m 0 c).arrAt w (cfgs 0).N) main_arg1 (by decide)).trans (by
    show StableHlo.after hostOps0 _ _ = _
    after_results <;> rfl)

theorem exit_arg2 (c : Dev nD) : exit m c (Proc.devRef .tc main_arg2) = m ((c : Thread nD τ).loc main_arg2) :=
  (Pipeline.withArrays_of_ne (cfgs 0).spec c (V0 m c) (fun w => (dats m 0 c).arrAt w (cfgs 0).N) main_arg2 (by decide)).trans (by
    show StableHlo.after hostOps0 _ _ = _
    after_results <;> rfl)

theorem exit_arg3 (c : Dev nD) : exit m c (Proc.devRef .tc main_arg3) = m ((c : Thread nD τ).loc main_arg3) :=
  (Pipeline.withArrays_of_ne (cfgs 0).spec c (V0 m c) (fun w => (dats m 0 c).arrAt w (cfgs 0).N) main_arg3 (by decide)).trans (by
    show StableHlo.after hostOps0 _ _ = _
    after_results <;> rfl)

theorem exit_arg4 (c : Dev nD) : exit m c (Proc.devRef .tc main_arg4) = m ((c : Thread nD τ).loc main_arg4) :=
  (Pipeline.withArrays_of_ne (cfgs 0).spec c (V0 m c) (fun w => (dats m 0 c).arrAt w (cfgs 0).N) main_arg4 (by decide)).trans (by
    show StableHlo.after hostOps0 _ _ = _
    after_results <;> rfl)

theorem exit_arg5 (c : Dev nD) : exit m c (Proc.devRef .tc main_arg5) = m ((c : Thread nD τ).loc main_arg5) :=
  (Pipeline.withArrays_of_ne (cfgs 0).spec c (V0 m c) (fun w => (dats m 0 c).arrAt w (cfgs 0).N) main_arg5 (by decide)).trans (by
    show StableHlo.after hostOps0 _ _ = _
    after_results <;> rfl)

theorem exit_arg8 (c : Dev nD) : exit m c (Proc.devRef .tc main_arg8) = m ((c : Thread nD τ).loc main_arg8) :=
  (Pipeline.withArrays_of_ne (cfgs 0).spec c (V0 m c) (fun w => (dats m 0 c).arrAt w (cfgs 0).N) main_arg8 (by decide)).trans (by
    show StableHlo.after hostOps0 _ _ = _
    after_results <;> rfl)

/-- The convolution state. -/
theorem conv_state (c : Dev nD) : Pipeline.afterTail₀ cfgs (dats m) 0 (V0 m) [hostOps1] c main_v20
    = Cert.SampleRefIdeal.Read.val_main_v24 (F := Ideal) (m ((c : Thread nD τ).loc main_arg0)) (m ((c : Thread nD τ).loc main_arg1))
        (m ((c : Thread nD τ).loc main_arg6)) (m ((c : Thread nD τ).loc main_arg7)) := by
  show StableHlo.after hostOps1 (exit m c) _ = _
  after_results
  rw [exit_rows, exit_arg1]
  erw [value_cols (m ((c : Thread nD τ).loc main_arg0)) (m ((c : Thread nD τ).loc main_arg6)) (m ((c : Thread nD τ).loc main_arg7))]
  erw [glu_cols (m ((c : Thread nD τ).loc main_arg0)) (m ((c : Thread nD τ).loc main_arg6)) (m ((c : Thread nD τ).loc main_arg7))]
  rfl

/-- The state of the short convolution. -/
theorem short_state (c : Dev nD) : Pipeline.afterTail₀ cfgs (dats m) 0 (V0 m) [hostOps1] c main_v85
    = Cert.SampleRefIdeal.Read.val_main_v89 (F := Ideal) (m ((c : Thread nD τ).loc main_arg0)) (m ((c : Thread nD τ).loc main_arg5))
        (m ((c : Thread nD τ).loc main_arg6)) (m ((c : Thread nD τ).loc main_arg7)) := by
  show StableHlo.after hostOps1 (exit m c) _ = _
  after_results
  rw [exit_rows, exit_arg5]
  erw [short_cols (m ((c : Thread nD τ).loc main_arg0)) (m ((c : Thread nD τ).loc main_arg6)) (m ((c : Thread nD τ).loc main_arg7))]
  rfl

/-- The window of 128 keys and values. -/
theorem kv_first (c : Dev nD) : Pipeline.afterTail₀ cfgs (dats m) 0 (V0 m) [hostOps1] c main_v52
    = Cert.SampleRefIdeal.Read.val_main_v56 (F := Ideal) (m ((c : Thread nD τ).loc main_arg0)) (m ((c : Thread nD τ).loc main_arg2))
        (m ((c : Thread nD τ).loc main_arg6)) (m ((c : Thread nD τ).loc main_arg7)) (m ((c : Thread nD τ).loc main_arg8)) := by
  show StableHlo.after hostOps1 (exit m c) _ = _
  after_results
  rw [exit_rows, exit_arg2, exit_arg8]
  erw [key_cols (m ((c : Thread nD τ).loc main_arg0)) (m ((c : Thread nD τ).loc main_arg6)) (m ((c : Thread nD τ).loc main_arg7))]
  erw [val_cols (m ((c : Thread nD τ).loc main_arg0)) (m ((c : Thread nD τ).loc main_arg6)) (m ((c : Thread nD τ).loc main_arg7))]
  rfl

/-- The window of 512 keys and values. -/
theorem kv_second (c : Dev nD) : Pipeline.afterTail₀ cfgs (dats m) 0 (V0 m) [hostOps1] c main_v67
    = Cert.SampleRefIdeal.Read.val_main_v71 (F := Ideal) (m ((c : Thread nD τ).loc main_arg0)) (m ((c : Thread nD τ).loc main_arg3))
        (m ((c : Thread nD τ).loc main_arg6)) (m ((c : Thread nD τ).loc main_arg7)) (m ((c : Thread nD τ).loc main_arg8)) := by
  show StableHlo.after hostOps1 (exit m c) _ = _
  after_results
  rw [exit_rows, exit_arg3, exit_arg8]
  erw [key_cols (m ((c : Thread nD τ).loc main_arg0)) (m ((c : Thread nD τ).loc main_arg6)) (m ((c : Thread nD τ).loc main_arg7))]
  erw [val_cols (m ((c : Thread nD τ).loc main_arg0)) (m ((c : Thread nD τ).loc main_arg6)) (m ((c : Thread nD τ).loc main_arg7))]
  rfl

/-- The window of 2048 keys and values. -/
theorem kv_third (c : Dev nD) : Pipeline.afterTail₀ cfgs (dats m) 0 (V0 m) [hostOps1] c main_v82
    = Cert.SampleRefIdeal.Read.val_main_v86 (F := Ideal) (m ((c : Thread nD τ).loc main_arg0)) (m ((c : Thread nD τ).loc main_arg4))
        (m ((c : Thread nD τ).loc main_arg6)) (m ((c : Thread nD τ).loc main_arg7)) (m ((c : Thread nD τ).loc main_arg8)) := by
  show StableHlo.after hostOps1 (exit m c) _ = _
  after_results
  rw [exit_rows, exit_arg4, exit_arg8]
  erw [key_cols (m ((c : Thread nD τ).loc main_arg0)) (m ((c : Thread nD τ).loc main_arg6)) (m ((c : Thread nD τ).loc main_arg7))]
  erw [val_cols (m ((c : Thread nD τ).loc main_arg0)) (m ((c : Thread nD τ).loc main_arg6)) (m ((c : Thread nD τ).loc main_arg7))]
  rfl

end Cert.SampleIdeal.States
-- ==== Proof.lean ====
/-
  Assembles the claim: for each of the eight kernel calls (the recurrence, the input projection, the branch merge, the output
  projection, the convolution's kept rows and the attention's kept windows; and at the sample rows the input projection with the
  states and the output projection) the frames of the call, of
  its idealization and of its reference, and the equality of the results over the extended reals. The value theorems are in the
  modules RecValue/RecRefResult, ProjValue, MergeValue, OutValue, SampleValue, OutSValue, ConvFinal/ConvReference and AttnValue.
-/
module

public import proofs.«01_k».proof.Defs
public import proofs.«01_k».proof.Proof.Gen.Rec
public import proofs.«01_k».proof.Proof.Gen.Rec.Skeleton
public import proofs.«01_k».proof.Proof.Gen.Rec.Launch
public import proofs.«01_k».proof.Proof.Gen.Rec.Points
public import proofs.«01_k».proof.Proof.Gen.Rec.Frame
public import proofs.«01_k».proof.Proof.Gen.RecIdeal
public import proofs.«01_k».proof.Proof.Gen.RecIdeal.Skeleton
public import proofs.«01_k».proof.Proof.Gen.RecIdeal.Launch
public import proofs.«01_k».proof.Proof.Gen.RecIdeal.Points
public import proofs.«01_k».proof.Proof.Gen.RecIdeal.Frame
public import proofs.«01_k».proof.Proof.Gen.RecRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.RecIdeal.Value
public import proofs.«01_k».proof.Proof.Gen.MergeIdeal.Value
public import proofs.«01_k».proof.Proof.Gen.OutIdeal.Value
public import proofs.«01_k».proof.Proof.Gen.ProjRefIdeal.Read
public import proofs.«01_k».proof.Proof.Gen.MergeRefIdeal.Read
public import proofs.«01_k».proof.Proof.Gen.OutRefIdeal.Read
public import proofs.«01_k».proof.Proof.Gen.RecRefIdeal.Run
public import proofs.«01_k».proof.Proof.Gen.ProjRefIdeal.Run
public import proofs.«01_k».proof.Proof.Gen.MergeRefIdeal.Run
public import proofs.«01_k».proof.Proof.Gen.OutRefIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.OutS
public import proofs.«01_k».proof.Proof.Gen.OutS.Skeleton
public import proofs.«01_k».proof.Proof.Gen.OutS.Launch
public import proofs.«01_k».proof.Proof.Gen.OutS.Points
public import proofs.«01_k».proof.Proof.Gen.OutS.Frame
public import proofs.«01_k».proof.Proof.Gen.OutSIdeal
public import proofs.«01_k».proof.Proof.Gen.OutSIdeal.Skeleton
public import proofs.«01_k».proof.Proof.Gen.OutSIdeal.Launch
public import proofs.«01_k».proof.Proof.Gen.OutSIdeal.Points
public import proofs.«01_k».proof.Proof.Gen.OutSIdeal.Frame
public import proofs.«01_k».proof.Proof.Gen.OutSRefIdeal
public import proofs.«01_k».proof.Proof.Gen.SampleRefIdeal.Read
public import proofs.«01_k».proof.Proof.Gen.SampleRefIdeal.Run
public import proofs.«01_k».proof.Proof.Gen.OutSRefIdeal.Read
public import proofs.«01_k».proof.Proof.Gen.OutSRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Read
public import proofs.«01_k».proof.Proof.Gen.ConvRefIdeal.Run
public import proofs.«01_k».proof.Proof.Gen.ConvIdeal.Value
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Read
public import proofs.«01_k».proof.Proof.Gen.AttnRefIdeal.Run
public import proofs.«01_k».proof.Proof.Gen.AttnIdeal.Value
public import proofs.«01_k».proof.Proof.ConvFinal
public import proofs.«01_k».proof.Proof.ConvReference
public import proofs.«01_k».proof.Proof.AttnValue
public import proofs.«01_k».proof.Proof.RecValue
public import proofs.«01_k».proof.Proof.RecRefResult
public import proofs.«01_k».proof.Proof.ProjValue
public import proofs.«01_k».proof.Proof.MergeValue
public import proofs.«01_k».proof.Proof.OutValue
public import proofs.«01_k».proof.Proof.OutSValue
public import proofs.«01_k».proof.Proof.SampleValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference of the recurrence runs, leaves its arguments as they were, and ends with every semaphore at zero. -/
theorem frame_RecRef : Cert.quiescent_RecRefIdeal (hRecRefIdeal := Cert.RecRefIdeal.Gen.facts) := fun m ρ _ =>
  (θ_run Cert.RecRefIdeal.defs _ _).mono (fun r h => ⟨fun c => (h c).2.2, sem_eq_zero_of_no_sems (by decide) r.2⟩)
    (Cert.RecRefIdeal.Value.run (F := Ideal) m ρ)

/-- The reference of the input projection runs, leaves its arguments as they were, and ends with every semaphore at zero. -/
theorem frame_ProjRef : Cert.quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The reference of the branch merge runs, leaves its arguments as they were, and ends with every semaphore at zero. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The reference of the output projection runs, leaves its arguments as they were, and ends with every semaphore at zero. -/
theorem frame_OutRef : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

/-- The reference of the sample rows runs, leaves its arguments as they were, and ends with every semaphore at zero. -/
theorem frame_SampleRef : Cert.quiescent_SampleRefIdeal (hSampleRefIdeal := Cert.SampleRefIdeal.Gen.facts) := fun m ρ _ =>
  (θ_run Cert.SampleRefIdeal.defs _ _).mono (fun r h => ⟨fun c => (h c).2.2.2.2.2, sem_eq_zero_of_no_sems (by decide) r.2⟩)
    (Cert.SampleRefIdeal.Value.run (F := Ideal) m ρ)

/-- The reference of the output projection at the sample rows runs, leaves its arguments as they were, and ends with every semaphore at zero. -/
theorem frame_OutSRef : Cert.quiescent_OutSRefIdeal (hOutSRefIdeal := Cert.OutSRefIdeal.Gen.facts) := fun m ρ _ =>
  (θ_run Cert.OutSRefIdeal.defs _ _).mono (fun r h => ⟨fun c => (h c).2, sem_eq_zero_of_no_sems (by decide) r.2⟩)
    (Cert.OutSRefIdeal.Value.run (F := Ideal) m ρ)

/-- The reference of the convolution's kept rows runs, leaves its arguments as they were, and ends with every semaphore at zero. -/
theorem frame_ConvRef : Cert.quiescent_ConvRefIdeal (hConvRefIdeal := Cert.ConvRefIdeal.Gen.facts) := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- The reference of the attention's kept windows runs, leaves its arguments as they were, and ends with every semaphore at zero. -/
theorem frame_AttnRef : Cert.quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The input projection: from equal arguments the kernel and its reference end with equal results. -/
theorem algebraic_Proj : Cert.algebraic_ProjIdeal_ProjRefIdeal (hProjIdeal := Cert.ProjIdeal.Gen.facts)
    (hProjRefIdeal := Cert.ProjRefIdeal.Gen.facts) := by
  pair_intro
  · run_from Cert.ProjIdeal.Gen.run_main m g
    · exact Cert.ProjIdeal.Gen.W_main_arg1 m _ c
    · exact Cert.ProjIdeal.Gen.W_main_arg2 m _ c
  · run_from Cert.ProjRefIdeal.Value.run m' g'
    · rw [(hagree c).2.2]
      exact (Cert.ProjIdeal.Projection.reference_eq _ _ _).trans (Cert.ProjIdeal.Projection.final m c).symm
    · refine Eq.trans ?_ (Cert.ProjIdeal.Projection.tail_slice m c).symm
      rw [Cert.ProjIdeal.Projection.final]
      try rw [(hagree c).2.2]
      exact Cert.ProjIdeal.Projection.reference_tail _ _ _

/-- The output projection at the sample rows: from equal arguments the kernel and its reference end with equal results. -/
theorem algebraic_OutS : Cert.algebraic_OutSIdeal_OutSRefIdeal (hOutSIdeal := Cert.OutSIdeal.Gen.facts)
    (hOutSRefIdeal := Cert.OutSRefIdeal.Gen.facts) := by
  pair_intro
  · run_from Cert.OutSIdeal.Gen.run_main m g
    · exact Cert.OutSIdeal.Gen.W_main_arg1 m _ c
    · exact Cert.OutSIdeal.Gen.W_main_arg2 m _ c
  · run_from Cert.OutSRefIdeal.Value.run m' g'
    exact (Cert.OutSIdeal.Projection.reference_eq _ _ _).trans (Cert.OutSIdeal.Projection.result m c).symm

/-- The sample rows: from equal arguments the kernel and its reference end with equal states. -/
theorem algebraic_Sample : Cert.algebraic_SampleIdeal_SampleRefIdeal (hSampleIdeal := Cert.SampleIdeal.Gen.facts)
    (hSampleRefIdeal := Cert.SampleRefIdeal.Gen.facts) := by
  intro m g m' g' _ hargs
  refine ⟨fun c => Pipeline.afterTail₀ Cert.SampleIdeal.cfgs (Cert.SampleIdeal.Gen.dats m) 0 (Cert.SampleIdeal.Gen.V0 m)
      [Cert.SampleIdeal.Gen.hostOps1] c Cert.SampleIdeal.main_v20,
    fun c => Pipeline.afterTail₀ Cert.SampleIdeal.cfgs (Cert.SampleIdeal.Gen.dats m) 0 (Cert.SampleIdeal.Gen.V0 m)
      [Cert.SampleIdeal.Gen.hostOps1] c Cert.SampleIdeal.main_v52,
    fun c => Pipeline.afterTail₀ Cert.SampleIdeal.cfgs (Cert.SampleIdeal.Gen.dats m) 0 (Cert.SampleIdeal.Gen.V0 m)
      [Cert.SampleIdeal.Gen.hostOps1] c Cert.SampleIdeal.main_v67,
    fun c => Pipeline.afterTail₀ Cert.SampleIdeal.cfgs (Cert.SampleIdeal.Gen.dats m) 0 (Cert.SampleIdeal.Gen.V0 m)
      [Cert.SampleIdeal.Gen.hostOps1] c Cert.SampleIdeal.main_v82,
    fun c => Pipeline.afterTail₀ Cert.SampleIdeal.cfgs (Cert.SampleIdeal.Gen.dats m) 0 (Cert.SampleIdeal.Gen.V0 m)
      [Cert.SampleIdeal.Gen.hostOps1] c Cert.SampleIdeal.main_v85, ?_, ?_⟩
  · refine (θ_run (Cert.SampleIdeal.defs (F := Ideal)) _ _).mono (fun r h c => ?_)
      (θ_run_and (Cert.SampleIdeal.Gen.run_main m g) (Cert.SampleIdeal.Gen.unchanged m g))
    have at_end := fun b hb => (h.1 c).2 b hb
    exact ⟨at_end Cert.SampleIdeal.main_v20 (Pipeline.mem_restRefs_of _ (by decide) (by decide)),
      at_end Cert.SampleIdeal.main_v52 (Pipeline.mem_restRefs_of _ (by decide) (by decide)),
      at_end Cert.SampleIdeal.main_v67 (Pipeline.mem_restRefs_of _ (by decide) (by decide)),
      at_end Cert.SampleIdeal.main_v82 (Pipeline.mem_restRefs_of _ (by decide) (by decide)),
      at_end Cert.SampleIdeal.main_v85 (Pipeline.mem_restRefs_of _ (by decide) (by decide)), h.2 c⟩
  · refine (θ_run (Cert.SampleRefIdeal.defs (F := Ideal)) _ _).mono (fun r h c => ?_) (Cert.SampleRefIdeal.Value.run (F := Ideal) m' g')
    obtain ⟨hconv, h1, h2, h3, hshort, hkept⟩ := h c
    obtain ⟨a0, a1, a2, a3, a4, a5, a6, a7, a8⟩ := hargs c
    refine ⟨hconv.trans ?_, h1.trans ?_, h2.trans ?_, h3.trans ?_, hshort.trans ?_, hkept⟩
    · refine (Cert.SampleRefIdeal.Read.val_main_v24_eq _ _ _ _).trans (Eq.trans ?_ (Cert.SampleIdeal.States.conv_state m c).symm)
      rw [a0, a1, a6, a7]
    · refine (Cert.SampleRefIdeal.Read.val_main_v56_eq m' c).trans (Eq.trans ?_ (Cert.SampleIdeal.States.kv_first m c).symm)
      rw [a0, a2, a6, a7, a8]
    · refine (Cert.SampleRefIdeal.Read.val_main_v71_eq m' c).trans (Eq.trans ?_ (Cert.SampleIdeal.States.kv_second m c).symm)
      rw [a0, a3, a6, a7, a8]
    · refine (Cert.SampleRefIdeal.Read.val_main_v86_eq m' c).trans (Eq.trans ?_ (Cert.SampleIdeal.States.kv_third m c).symm)
      rw [a0, a4, a6, a7, a8]
    · refine (Cert.SampleRefIdeal.Read.val_main_v89_eq _ _ _ _).trans (Eq.trans ?_ (Cert.SampleIdeal.States.short_state m c).symm)
      rw [a0, a5, a6, a7]

/-- The branch merge: from equal arguments the kernel and its reference end with equal results. -/
theorem algebraic_Merge : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    exact (Cert.MergeIdeal.Merge.reference_eq _ _ _ _ _).trans (Cert.MergeIdeal.Merge.final m c).symm

/-- The output projection: from equal arguments the kernel and its reference end with equal results. -/
theorem algebraic_Out : Cert.algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Value.run m' g'
    exact (Cert.OutIdeal.Projection.final m c).symm

/-- The recurrence: from equal arguments the kernel and its reference end with equal results. -/
theorem algebraic_Rec : Cert.algebraic_RecIdeal_RecRefIdeal (hRecIdeal := Cert.RecIdeal.Gen.facts)
    (hRecRefIdeal := Cert.RecRefIdeal.Gen.facts) := by
  intro m g m' g' _ hargs
  refine ⟨fun c => (Cert.RecIdeal.Gen.dats m 0 c).arrAt 8 (Cert.RecIdeal.cfgs 0).N,
    fun c => (Cert.RecIdeal.Gen.dats m 0 c).arrAt 9 (Cert.RecIdeal.cfgs 0).N, ?_, ?_⟩
  · run_from Cert.RecIdeal.Gen.run_main m g
  · refine (θ_run (Cert.RecRefIdeal.defs (F := Ideal)) _ _).mono (fun r h c => ?_) (Cert.RecRefIdeal.Value.run (F := Ideal) m' g')
    obtain ⟨hrows, hstate, hkept⟩ := h c
    obtain ⟨h0, h1, h2, h3, h4, h5, h6, h7⟩ := hargs c
    refine ⟨hrows.trans ?_, hstate.trans ?_, hkept⟩
    · refine (Cert.RecRefIdeal.Result.final_rows m' c).trans (Eq.trans ?_ (Cert.RecIdeal.Value.final_rows m c).symm)
      rw [h0, h1, h2, h3, h4, h5, h6, h7]
    · refine (Cert.RecRefIdeal.Result.final_state m' c).trans (Eq.trans ?_ (Cert.RecIdeal.Value.final_state m c).symm)
      rw [h0, h1, h3, h5]

/-- The convolution's rows and its kept rows: from equal arguments the kernel and its reference end with equal results. -/
theorem algebraic_Conv : Cert.algebraic_ConvIdeal_ConvRefIdeal (hConvIdeal := Cert.ConvIdeal.Gen.facts)
    (hConvRefIdeal := Cert.ConvRefIdeal.Gen.facts) := by
  intro m g m' g' _ hargs
  refine ⟨fun c => (Cert.ConvIdeal.Gen.dats m 0 c).arrAt 7 (Cert.ConvIdeal.cfgs 0).N,
    fun c => (Cert.ConvIdeal.Gen.dats m 0 c).arrAt 8 (Cert.ConvIdeal.cfgs 0).N, ?_, ?_⟩
  · run_from Cert.ConvIdeal.Gen.run_main m g
  · refine (θ_run (Cert.ConvRefIdeal.defs (F := Ideal)) _ _).mono (fun r h c => ?_) (Cert.ConvRefIdeal.Value.run (F := Ideal) m' g')
    obtain ⟨hrows, htail, hkept⟩ := h c
    obtain ⟨h0, h1, h2, h3, h4⟩ := hargs c
    refine ⟨hrows.trans ?_, htail.trans ?_, hkept⟩
    · refine ((Cert.ConvRefIdeal.Read.val_main_v267_eq _).trans (Cert.ConvRefIdeal.Value.reference_rows _)).trans
        (Eq.trans ?_ (Cert.ConvIdeal.Value.final_rows m c).symm)
      exact congr (congr (congr (congrArg₂ Cert.ConvIdeal.Value.rows h0 h1) h2) h3) h4
    · refine ((Cert.ConvRefIdeal.Read.val_main_v268_eq _).trans (Cert.ConvRefIdeal.Value.reference_tail _)).trans
        (Eq.trans ?_ (Cert.ConvIdeal.Value.final_tail m c).symm)
      exact congrArg Cert.ConvIdeal.Value.kept h0

/-- The attention's kept windows: from equal arguments the kernel and its reference end with equal results. -/
theorem algebraic_Attn : Cert.algebraic_AttnIdeal_AttnRefIdeal (hAttnIdeal := Cert.AttnIdeal.Gen.facts)
    (hAttnRefIdeal := Cert.AttnRefIdeal.Gen.facts) := by
  intro m g m' g' _ hargs
  refine ⟨fun c => (Cert.AttnIdeal.Gen.dats m 0 c).arrAt 13 (Cert.AttnIdeal.cfgs 0).N,
    fun c => (Cert.AttnIdeal.Gen.dats m 0 c).arrAt 14 (Cert.AttnIdeal.cfgs 0).N,
    fun c => (Cert.AttnIdeal.Gen.dats m 0 c).arrAt 15 (Cert.AttnIdeal.cfgs 0).N, ?_, ?_⟩
  · run_from Cert.AttnIdeal.Gen.run_main m g
  · refine (θ_run (Cert.AttnRefIdeal.defs (F := Ideal)) _ _).mono (fun r h c => ?_) (Cert.AttnRefIdeal.Value.run (F := Ideal) m' g')
    obtain ⟨hshort, hmiddle, hlong, hkept⟩ := h c
    obtain ⟨h0, h1, h2⟩ := hargs c
    refine ⟨hshort.trans ?_, hmiddle.trans ?_, hlong.trans ?_, hkept⟩
    · refine ((Cert.AttnRefIdeal.Read.val_main_v24_eq _ _).trans (Cert.AttnIdeal.Value.reference_kv128 _ _)).trans
        (Eq.trans ?_ (Cert.AttnIdeal.Value.final_kv128 m c).symm)
      rw [h0, h2]
    · refine ((Cert.AttnRefIdeal.Read.val_main_v32_eq _ _).trans (Cert.AttnIdeal.Value.reference_kv512 _ _)).trans
        (Eq.trans ?_ (Cert.AttnIdeal.Value.final_kv512 m c).symm)
      rw [h0, h2]
    · refine ((Cert.AttnRefIdeal.Read.val_main_v40_eq _ _).trans (Cert.AttnIdeal.Value.reference_kv2048 _ _)).trans
        (Eq.trans ?_ (Cert.AttnIdeal.Value.final_kv2048 m c).symm)
      rw [h0, h2]

/-- The certificate. -/
theorem claim : Cert.Claim := ⟨Cert.Rec.Gen.facts, Cert.RecIdeal.Gen.facts, Cert.RecRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Sample.Gen.facts, Cert.SampleIdeal.Gen.facts, Cert.SampleRefIdeal.Gen.facts, Cert.OutS.Gen.facts, Cert.OutSIdeal.Gen.facts, Cert.OutSRefIdeal.Gen.facts, Cert.Conv.Gen.facts, Cert.ConvIdeal.Gen.facts, Cert.ConvRefIdeal.Gen.facts, Cert.Attn.Gen.facts, Cert.AttnIdeal.Gen.facts, Cert.AttnRefIdeal.Gen.facts,
  fun m ρ _ => Cert.Rec.Gen.frame m ρ,
  fun m ρ _ => Cert.RecIdeal.Gen.frame m ρ,
  frame_RecRef,
  fun m ρ _ => Cert.Proj.Gen.frame m ρ,
  fun m ρ _ => Cert.ProjIdeal.Gen.frame m ρ,
  frame_ProjRef,
  fun m ρ _ => Cert.Merge.Gen.frame m ρ,
  fun m ρ _ => Cert.MergeIdeal.Gen.frame m ρ,
  frame_MergeRef,
  fun m ρ _ => Cert.Out.Gen.frame m ρ,
  fun m ρ _ => Cert.OutIdeal.Gen.frame m ρ,
  frame_OutRef,
  fun m ρ _ => Cert.Sample.Gen.frame m ρ,
  fun m ρ _ => Cert.SampleIdeal.Gen.frame m ρ,
  frame_SampleRef,
  fun m ρ _ => Cert.OutS.Gen.frame m ρ,
  fun m ρ _ => Cert.OutSIdeal.Gen.frame m ρ,
  frame_OutSRef,
  fun m ρ _ => Cert.Conv.Gen.frame m ρ,
  fun m ρ _ => Cert.ConvIdeal.Gen.frame m ρ,
  frame_ConvRef,
  fun m ρ _ => Cert.Attn.Gen.frame m ρ,
  fun m ρ _ => Cert.AttnIdeal.Gen.frame m ρ,
  frame_AttnRef,
  trivial,
  algebraic_Rec,
  trivial,
  algebraic_Proj,
  trivial,
  algebraic_Merge,
  trivial,
  algebraic_Out,
  trivial,
  algebraic_Sample,
  trivial,
  algebraic_OutS,
  trivial,
  algebraic_Conv,
  trivial,
  algebraic_Attn⟩

end Cert.Proof

end
